-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_idx_in_range : Cert.Pre_idx_in_range.Facts] (m : (ℓ : Loc Cert.Reference.nD Cert.Reference.τ Cert.Reference.sig) → Buf (Elt Bits) ℓ) : Prop :=
  ∀ c : Dev Cert.Reference.nD,
    (Cert.Pre_idx_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Search (m : (ℓ : Loc Cert.Search.nD Cert.Search.τ Cert.Search.sig) → Buf (Elt Bits) ℓ) : Prop :=
  True

def Pre_SearchIdeal (m : (ℓ : Loc Cert.SearchIdeal.nD Cert.SearchIdeal.τ Cert.SearchIdeal.sig) → Buf (Elt Ideal) ℓ) : Prop :=
  True

def Pre_SearchIdeal_points_finite [hPre_points_finite : Cert.Pre_points_finite.Facts] (m : (ℓ : Loc Cert.SearchIdeal.nD Cert.SearchIdeal.τ Cert.SearchIdeal.sig) → Buf (Elt Ideal) ℓ) : Prop :=
  ∀ c : Dev Cert.SearchIdeal.nD,
    (Cert.Pre_points_finite.fn (F := Ideal) (m ((c.tc : Thread Cert.SearchIdeal.nD Cert.SearchIdeal.τ).loc Cert.SearchIdeal.main_arg0)) (m ((c.tc : Thread Cert.SearchIdeal.nD Cert.SearchIdeal.τ).loc Cert.SearchIdeal.main_arg1))) = (fun _ => 1#1)

def Pre_SearchReferenceIdeal (m : (ℓ : Loc Cert.SearchReferenceIdeal.nD Cert.SearchReferenceIdeal.τ Cert.SearchReferenceIdeal.sig) → Buf (Elt Ideal) ℓ) : Prop :=
  True

def Pre_SearchReferenceIdeal_points_finite [hPre_points_finite : Cert.Pre_points_finite.Facts] (m : (ℓ : Loc Cert.SearchReferenceIdeal.nD Cert.SearchReferenceIdeal.τ Cert.SearchReferenceIdeal.sig) → Buf (Elt Ideal) ℓ) : Prop :=
  ∀ c : Dev Cert.SearchReferenceIdeal.nD,
    (Cert.Pre_points_finite.fn (F := Ideal) (m ((c.tc : Thread Cert.SearchReferenceIdeal.nD Cert.SearchReferenceIdeal.τ).loc Cert.SearchReferenceIdeal.main_arg0)) (m ((c.tc : Thread Cert.SearchReferenceIdeal.nD Cert.SearchReferenceIdeal.τ).loc Cert.SearchReferenceIdeal.main_arg1))) = (fun _ => 1#1)

def Pre_Coarse (m : (ℓ : Loc Cert.Coarse.nD Cert.Coarse.τ Cert.Coarse.sig) → Buf (Elt Bits) ℓ) : Prop :=
  True

def Pre_CoarseIdeal (m : (ℓ : Loc Cert.CoarseIdeal.nD Cert.CoarseIdeal.τ Cert.CoarseIdeal.sig) → Buf (Elt Ideal) ℓ) : Prop :=
  True

def Pre_CoarseReferenceIdeal (m : (ℓ : Loc Cert.CoarseReferenceIdeal.nD Cert.CoarseReferenceIdeal.τ Cert.CoarseReferenceIdeal.sig) → Buf (Elt Ideal) ℓ) : Prop :=
  True

def Pre_Fine (m : (ℓ : Loc Cert.Fine.nD Cert.Fine.τ Cert.Fine.sig) → Buf (Elt Bits) ℓ) : Prop :=
  True

def Pre_FineIdeal (m : (ℓ : Loc Cert.FineIdeal.nD Cert.FineIdeal.τ Cert.FineIdeal.sig) → Buf (Elt Ideal) ℓ) : Prop :=
  True

def Pre_FineReferenceIdeal (m : (ℓ : Loc Cert.FineReferenceIdeal.nD Cert.FineReferenceIdeal.τ Cert.FineReferenceIdeal.sig) → Buf (Elt Ideal) ℓ) : Prop :=
  True

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_idx_in_range : Cert.Pre_idx_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Search [hSearch : Cert.Search.Facts] : Prop :=
  ∀ (m : (ℓ : Loc Cert.Search.nD Cert.Search.τ Cert.Search.sig) → Buf (Elt Bits) ℓ) (g : Dev Cert.Search.nD → PrngReg), Pre_Search m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0)
      ∧ r.2.mem ((c.tc : Thread Cert.Search.nD Cert.Search.τ).loc Cert.Search.main_arg1) = m ((c.tc : Thread Cert.Search.nD Cert.Search.τ).loc Cert.Search.main_arg1))
      ∧ r.2.sem = fun _ => 0)

def quiescent_SearchIdeal [hSearchIdeal : Cert.SearchIdeal.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def quiescent_SearchIdeal_pre_points_finite [hSearchIdeal : Cert.SearchIdeal.Facts] [hPre_points_finite : Cert.Pre_points_finite.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal_points_finite m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def quiescent_SearchReferenceIdeal [hSearchReferenceIdeal : Cert.SearchReferenceIdeal.Facts] : Prop :=
  ∀ (m : (ℓ : Loc Cert.SearchReferenceIdeal.nD Cert.SearchReferenceIdeal.τ Cert.SearchReferenceIdeal.sig) → Buf (Elt Ideal) ℓ) (g : Dev Cert.SearchReferenceIdeal.nD → PrngReg), Pre_SearchReferenceIdeal m →
    θ_run (Cert.SearchReferenceIdeal.defs (F := Ideal)) (onTc (τ := Cert.SearchReferenceIdeal.τ) (Cert.SearchReferenceIdeal.main (F := Ideal))) ⟨m, fun _ => 0, g⟩ (fun r => (∀ c : Dev Cert.SearchReferenceIdeal.nD,
      r.2.mem ((c.tc : Thread Cert.SearchReferenceIdeal.nD Cert.SearchReferenceIdeal.τ).loc Cert.SearchReferenceIdeal.main_arg0) = m ((c.tc : Thread Cert.SearchReferenceIdeal.nD Cert.SearchReferenceIdeal.τ).loc Cert.SearchReferenceIdeal.main_arg0)
      ∧ r.2.mem ((c.tc : Thread Cert.SearchReferenceIdeal.nD Cert.SearchReferenceIdeal.τ).loc Cert.SearchReferenceIdeal.main_arg1) = m ((c.tc : Thread Cert.SearchReferenceIdeal.nD Cert.SearchReferenceIdeal.τ).loc Cert.SearchReferenceIdeal.main_arg1))
      ∧ r.2.sem = fun _ => 0)

def quiescent_SearchReferenceIdeal_pre_points_finite [hSearchReferenceIdeal : Cert.SearchReferenceIdeal.Facts] [hPre_points_finite : Cert.Pre_points_finite.Facts] : Prop :=
  ∀ (m : (ℓ : Loc Cert.SearchReferenceIdeal.nD Cert.SearchReferenceIdeal.τ Cert.SearchReferenceIdeal.sig) → Buf (Elt Ideal) ℓ) (g : Dev Cert.SearchReferenceIdeal.nD → PrngReg), Pre_SearchReferenceIdeal_points_finite m →
    θ_run (Cert.SearchReferenceIdeal.defs (F := Ideal)) (onTc (τ := Cert.SearchReferenceIdeal.τ) (Cert.SearchReferenceIdeal.main (F := Ideal))) ⟨m, fun _ => 0, g⟩ (fun r => (∀ c : Dev Cert.SearchReferenceIdeal.nD,
      r.2.mem ((c.tc : Thread Cert.SearchReferenceIdeal.nD Cert.SearchReferenceIdeal.τ).loc Cert.SearchReferenceIdeal.main_arg0) = m ((c.tc : Thread Cert.SearchReferenceIdeal.nD Cert.SearchReferenceIdeal.τ).loc Cert.SearchReferenceIdeal.main_arg0)
      ∧ r.2.mem ((c.tc : Thread Cert.SearchReferenceIdeal.nD Cert.SearchReferenceIdeal.τ).loc Cert.SearchReferenceIdeal.main_arg1) = m ((c.tc : Thread Cert.SearchReferenceIdeal.nD Cert.SearchReferenceIdeal.τ).loc Cert.SearchReferenceIdeal.main_arg1))
      ∧ r.2.sem = fun _ => 0)

def quiescent_Coarse [hCoarse : Cert.Coarse.Facts] : Prop :=
  ∀ (m : (ℓ : Loc Cert.Coarse.nD Cert.Coarse.τ Cert.Coarse.sig) → Buf (Elt Bits) ℓ) (g : Dev Cert.Coarse.nD → PrngReg), Pre_Coarse m →
    θ_run (Cert.Coarse.defs (F := Bits)) (onTc (τ := Cert.Coarse.τ) (Cert.Coarse.main (F := Bits))) ⟨m, fun _ => 0, g⟩ (fun r => (∀ c : Dev Cert.Coarse.nD,
      r.2.mem ((c.tc : Thread Cert.Coarse.nD Cert.Coarse.τ).loc Cert.Coarse.main_arg0) = m ((c.tc : Thread Cert.Coarse.nD Cert.Coarse.τ).loc Cert.Coarse.main_arg0)
      ∧ r.2.mem ((c.tc : Thread Cert.Coarse.nD Cert.Coarse.τ).loc Cert.Coarse.main_arg1) = m ((c.tc : Thread Cert.Coarse.nD Cert.Coarse.τ).loc Cert.Coarse.main_arg1)
      ∧ r.2.mem ((c.tc : Thread Cert.Coarse.nD Cert.Coarse.τ).loc Cert.Coarse.main_arg2) = m ((c.tc : Thread Cert.Coarse.nD Cert.Coarse.τ).loc Cert.Coarse.main_arg2)
      ∧ r.2.mem ((c.tc : Thread Cert.Coarse.nD Cert.Coarse.τ).loc Cert.Coarse.main_arg3) = m ((c.tc : Thread Cert.Coarse.nD Cert.Coarse.τ).loc Cert.Coarse.main_arg3)
      ∧ r.2.mem ((c.tc : Thread Cert.Coarse.nD Cert.Coarse.τ).loc Cert.Coarse.main_arg4) = m ((c.tc : Thread Cert.Coarse.nD Cert.Coarse.τ).loc Cert.Coarse.main_arg4))
      ∧ r.2.sem = fun _ => 0)

def quiescent_CoarseIdeal [hCoarseIdeal : Cert.CoarseIdeal.Facts] : Prop :=
  ∀ (m : (ℓ : Loc Cert.CoarseIdeal.nD Cert.CoarseIdeal.τ Cert.CoarseIdeal.sig) → Buf (Elt Ideal) ℓ) (g : Dev Cert.CoarseIdeal.nD → PrngReg), Pre_CoarseIdeal m →
    θ_run (Cert.CoarseIdeal.defs (F := Ideal)) (onTc (τ := Cert.CoarseIdeal.τ) (Cert.CoarseIdeal.main (F := Ideal))) ⟨m, fun _ => 0, g⟩ (fun r => (∀ c : Dev Cert.CoarseIdeal.nD,
      r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
      ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
      ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2)
      ∧ r.2.mem ((c.tc : Thread Cert.CoarseIdeal.nD Cert.CoarseIdeal.τ).loc Cert.CoarseIdeal.main_arg3) = m ((c.tc : Thread Cert.CoarseIdeal.nD Cert.CoarseIdeal.τ).loc Cert.CoarseIdeal.main_arg3)
      ∧ r.2.mem ((c.tc : Thread Cert.CoarseIdeal.nD Cert.CoarseIdeal.τ).loc Cert.CoarseIdeal.main_arg4) = m ((c.tc : Thread Cert.CoarseIdeal.nD Cert.CoarseIdeal.τ).loc Cert.CoarseIdeal.main_arg4))
      ∧ r.2.sem = fun _ => 0)

def quiescent_CoarseReferenceIdeal [hCoarseReferenceIdeal : Cert.CoarseReferenceIdeal.Facts] : Prop :=
  ∀ (m : (ℓ : Loc Cert.CoarseReferenceIdeal.nD Cert.CoarseReferenceIdeal.τ Cert.CoarseReferenceIdeal.sig) → Buf (Elt Ideal) ℓ) (g : Dev Cert.CoarseReferenceIdeal.nD → PrngReg), Pre_CoarseReferenceIdeal m →
    θ_run (Cert.CoarseReferenceIdeal.defs (F := Ideal)) (onTc (τ := Cert.CoarseReferenceIdeal.τ) (Cert.CoarseReferenceIdeal.main (F := Ideal))) ⟨m, fun _ => 0, g⟩ (fun r => (∀ c : Dev Cert.CoarseReferenceIdeal.nD,
      r.2.mem ((c.tc : Thread Cert.CoarseReferenceIdeal.nD Cert.CoarseReferenceIdeal.τ).loc Cert.CoarseReferenceIdeal.main_arg0) = m ((c.tc : Thread Cert.CoarseReferenceIdeal.nD Cert.CoarseReferenceIdeal.τ).loc Cert.CoarseReferenceIdeal.main_arg0)
      ∧ r.2.mem ((c.tc : Thread Cert.CoarseReferenceIdeal.nD Cert.CoarseReferenceIdeal.τ).loc Cert.CoarseReferenceIdeal.main_arg1) = m ((c.tc : Thread Cert.CoarseReferenceIdeal.nD Cert.CoarseReferenceIdeal.τ).loc Cert.CoarseReferenceIdeal.main_arg1)
      ∧ r.2.mem ((c.tc : Thread Cert.CoarseReferenceIdeal.nD Cert.CoarseReferenceIdeal.τ).loc Cert.CoarseReferenceIdeal.main_arg2) = m ((c.tc : Thread Cert.CoarseReferenceIdeal.nD Cert.CoarseReferenceIdeal.τ).loc Cert.CoarseReferenceIdeal.main_arg2)
      ∧ r.2.mem ((c.tc : Thread Cert.CoarseReferenceIdeal.nD Cert.CoarseReferenceIdeal.τ).loc Cert.CoarseReferenceIdeal.main_arg3) = m ((c.tc : Thread Cert.CoarseReferenceIdeal.nD Cert.CoarseReferenceIdeal.τ).loc Cert.CoarseReferenceIdeal.main_arg3)
      ∧ r.2.mem ((c.tc : Thread Cert.CoarseReferenceIdeal.nD Cert.CoarseReferenceIdeal.τ).loc Cert.CoarseReferenceIdeal.main_arg4) = m ((c.tc : Thread Cert.CoarseReferenceIdeal.nD Cert.CoarseReferenceIdeal.τ).loc Cert.CoarseReferenceIdeal.main_arg4))
      ∧ r.2.sem = fun _ => 0)

def quiescent_Fine [hFine : Cert.Fine.Facts] : Prop :=
  ∀ (m : (ℓ : Loc Cert.Fine.nD Cert.Fine.τ Cert.Fine.sig) → Buf (Elt Bits) ℓ) (g : Dev Cert.Fine.nD → PrngReg), Pre_Fine m →
    θ_run (Cert.Fine.defs (F := Bits)) (onTc (τ := Cert.Fine.τ) (Cert.Fine.main (F := Bits))) ⟨m, fun _ => 0, g⟩ (fun r => (∀ c : Dev Cert.Fine.nD,
      r.2.mem ((c.tc : Thread Cert.Fine.nD Cert.Fine.τ).loc Cert.Fine.main_arg0) = m ((c.tc : Thread Cert.Fine.nD Cert.Fine.τ).loc Cert.Fine.main_arg0)
      ∧ r.2.mem ((c.tc : Thread Cert.Fine.nD Cert.Fine.τ).loc Cert.Fine.main_arg1) = m ((c.tc : Thread Cert.Fine.nD Cert.Fine.τ).loc Cert.Fine.main_arg1)
      ∧ r.2.mem ((c.tc : Thread Cert.Fine.nD Cert.Fine.τ).loc Cert.Fine.main_arg2) = m ((c.tc : Thread Cert.Fine.nD Cert.Fine.τ).loc Cert.Fine.main_arg2)
      ∧ r.2.mem ((c.tc : Thread Cert.Fine.nD Cert.Fine.τ).loc Cert.Fine.main_arg3) = m ((c.tc : Thread Cert.Fine.nD Cert.Fine.τ).loc Cert.Fine.main_arg3)
      ∧ r.2.mem ((c.tc : Thread Cert.Fine.nD Cert.Fine.τ).loc Cert.Fine.main_arg4) = m ((c.tc : Thread Cert.Fine.nD Cert.Fine.τ).loc Cert.Fine.main_arg4)
      ∧ r.2.mem ((c.tc : Thread Cert.Fine.nD Cert.Fine.τ).loc Cert.Fine.main_arg5) = m ((c.tc : Thread Cert.Fine.nD Cert.Fine.τ).loc Cert.Fine.main_arg5)
      ∧ r.2.mem ((c.tc : Thread Cert.Fine.nD Cert.Fine.τ).loc Cert.Fine.main_arg6) = m ((c.tc : Thread Cert.Fine.nD Cert.Fine.τ).loc Cert.Fine.main_arg6)
      ∧ r.2.mem ((c.tc : Thread Cert.Fine.nD Cert.Fine.τ).loc Cert.Fine.main_arg7) = m ((c.tc : Thread Cert.Fine.nD Cert.Fine.τ).loc Cert.Fine.main_arg7)
      ∧ r.2.mem ((c.tc : Thread Cert.Fine.nD Cert.Fine.τ).loc Cert.Fine.main_arg8) = m ((c.tc : Thread Cert.Fine.nD Cert.Fine.τ).loc Cert.Fine.main_arg8))
      ∧ r.2.sem = fun _ => 0)

def quiescent_FineIdeal [hFineIdeal : Cert.FineIdeal.Facts] : Prop :=
  ∀ (m : (ℓ : Loc Cert.FineIdeal.nD Cert.FineIdeal.τ Cert.FineIdeal.sig) → Buf (Elt Ideal) ℓ) (g : Dev Cert.FineIdeal.nD → PrngReg), Pre_FineIdeal m →
    θ_run (Cert.FineIdeal.defs (F := Ideal)) (onTc (τ := Cert.FineIdeal.τ) (Cert.FineIdeal.main (F := Ideal))) ⟨m, fun _ => 0, g⟩ (fun r => (∀ c : Dev Cert.FineIdeal.nD,
      r.2.mem ((c.tc : Thread Cert.FineIdeal.nD Cert.FineIdeal.τ).loc Cert.FineIdeal.main_arg0) = m ((c.tc : Thread Cert.FineIdeal.nD Cert.FineIdeal.τ).loc Cert.FineIdeal.main_arg0)
      ∧ r.2.mem ((c.tc : Thread Cert.FineIdeal.nD Cert.FineIdeal.τ).loc Cert.FineIdeal.main_arg1) = m ((c.tc : Thread Cert.FineIdeal.nD Cert.FineIdeal.τ).loc Cert.FineIdeal.main_arg1)
      ∧ r.2.mem ((c.tc : Thread Cert.FineIdeal.nD Cert.FineIdeal.τ).loc Cert.FineIdeal.main_arg2) = m ((c.tc : Thread Cert.FineIdeal.nD Cert.FineIdeal.τ).loc Cert.FineIdeal.main_arg2)
      ∧ r.2.mem ((c.tc : Thread Cert.FineIdeal.nD Cert.FineIdeal.τ).loc Cert.FineIdeal.main_arg3) = m ((c.tc : Thread Cert.FineIdeal.nD Cert.FineIdeal.τ).loc Cert.FineIdeal.main_arg3)
      ∧ r.2.mem ((c.tc : Thread Cert.FineIdeal.nD Cert.FineIdeal.τ).loc Cert.FineIdeal.main_arg4) = m ((c.tc : Thread Cert.FineIdeal.nD Cert.FineIdeal.τ).loc Cert.FineIdeal.main_arg4)
      ∧ r.2.mem ((c.tc : Thread Cert.FineIdeal.nD Cert.FineIdeal.τ).loc Cert.FineIdeal.main_arg5) = m ((c.tc : Thread Cert.FineIdeal.nD Cert.FineIdeal.τ).loc Cert.FineIdeal.main_arg5)
      ∧ r.2.mem ((c.tc : Thread Cert.FineIdeal.nD Cert.FineIdeal.τ).loc Cert.FineIdeal.main_arg6) = m ((c.tc : Thread Cert.FineIdeal.nD Cert.FineIdeal.τ).loc Cert.FineIdeal.main_arg6)
      ∧ r.2.mem ((c.tc : Thread Cert.FineIdeal.nD Cert.FineIdeal.τ).loc Cert.FineIdeal.main_arg7) = m ((c.tc : Thread Cert.FineIdeal.nD Cert.FineIdeal.τ).loc Cert.FineIdeal.main_arg7)
      ∧ r.2.mem ((c.tc : Thread Cert.FineIdeal.nD Cert.FineIdeal.τ).loc Cert.FineIdeal.main_arg8) = m ((c.tc : Thread Cert.FineIdeal.nD Cert.FineIdeal.τ).loc Cert.FineIdeal.main_arg8))
      ∧ r.2.sem = fun _ => 0)

def quiescent_FineReferenceIdeal [hFineReferenceIdeal : Cert.FineReferenceIdeal.Facts] : Prop :=
  ∀ (m : (ℓ : Loc Cert.FineReferenceIdeal.nD Cert.FineReferenceIdeal.τ Cert.FineReferenceIdeal.sig) → Buf (Elt Ideal) ℓ) (g : Dev Cert.FineReferenceIdeal.nD → PrngReg), Pre_FineReferenceIdeal m →
    θ_run (Cert.FineReferenceIdeal.defs (F := Ideal)) (onTc (τ := Cert.FineReferenceIdeal.τ) (Cert.FineReferenceIdeal.main (F := Ideal))) ⟨m, fun _ => 0, g⟩ (fun r => (∀ c : Dev Cert.FineReferenceIdeal.nD,
      r.2.mem ((c.tc : Thread Cert.FineReferenceIdeal.nD Cert.FineReferenceIdeal.τ).loc Cert.FineReferenceIdeal.main_arg0) = m ((c.tc : Thread Cert.FineReferenceIdeal.nD Cert.FineReferenceIdeal.τ).loc Cert.FineReferenceIdeal.main_arg0)
      ∧ r.2.mem ((c.tc : Thread Cert.FineReferenceIdeal.nD Cert.FineReferenceIdeal.τ).loc Cert.FineReferenceIdeal.main_arg1) = m ((c.tc : Thread Cert.FineReferenceIdeal.nD Cert.FineReferenceIdeal.τ).loc Cert.FineReferenceIdeal.main_arg1)
      ∧ r.2.mem ((c.tc : Thread Cert.FineReferenceIdeal.nD Cert.FineReferenceIdeal.τ).loc Cert.FineReferenceIdeal.main_arg2) = m ((c.tc : Thread Cert.FineReferenceIdeal.nD Cert.FineReferenceIdeal.τ).loc Cert.FineReferenceIdeal.main_arg2)
      ∧ r.2.mem ((c.tc : Thread Cert.FineReferenceIdeal.nD Cert.FineReferenceIdeal.τ).loc Cert.FineReferenceIdeal.main_arg3) = m ((c.tc : Thread Cert.FineReferenceIdeal.nD Cert.FineReferenceIdeal.τ).loc Cert.FineReferenceIdeal.main_arg3)
      ∧ r.2.mem ((c.tc : Thread Cert.FineReferenceIdeal.nD Cert.FineReferenceIdeal.τ).loc Cert.FineReferenceIdeal.main_arg4) = m ((c.tc : Thread Cert.FineReferenceIdeal.nD Cert.FineReferenceIdeal.τ).loc Cert.FineReferenceIdeal.main_arg4)
      ∧ r.2.mem ((c.tc : Thread Cert.FineReferenceIdeal.nD Cert.FineReferenceIdeal.τ).loc Cert.FineReferenceIdeal.main_arg5) = m ((c.tc : Thread Cert.FineReferenceIdeal.nD Cert.FineReferenceIdeal.τ).loc Cert.FineReferenceIdeal.main_arg5)
      ∧ r.2.mem ((c.tc : Thread Cert.FineReferenceIdeal.nD Cert.FineReferenceIdeal.τ).loc Cert.FineReferenceIdeal.main_arg6) = m ((c.tc : Thread Cert.FineReferenceIdeal.nD Cert.FineReferenceIdeal.τ).loc Cert.FineReferenceIdeal.main_arg6)
      ∧ r.2.mem ((c.tc : Thread Cert.FineReferenceIdeal.nD Cert.FineReferenceIdeal.τ).loc Cert.FineReferenceIdeal.main_arg7) = m ((c.tc : Thread Cert.FineReferenceIdeal.nD Cert.FineReferenceIdeal.τ).loc Cert.FineReferenceIdeal.main_arg7)
      ∧ r.2.mem ((c.tc : Thread Cert.FineReferenceIdeal.nD Cert.FineReferenceIdeal.τ).loc Cert.FineReferenceIdeal.main_arg8) = m ((c.tc : Thread Cert.FineReferenceIdeal.nD Cert.FineReferenceIdeal.τ).loc Cert.FineReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Search_SearchIdeal : Prop :=
  True

def algebraic_SearchIdeal_SearchReferenceIdeal_pre_points_finite [hSearchIdeal : Cert.SearchIdeal.Facts] [hSearchReferenceIdeal : Cert.SearchReferenceIdeal.Facts] [hPre_points_finite : Cert.Pre_points_finite.Facts] : Prop :=
  ∀ (m : (ℓ : Loc Cert.SearchIdeal.nD Cert.SearchIdeal.τ Cert.SearchIdeal.sig) → Buf (Elt Ideal) ℓ) (g : Dev Cert.SearchIdeal.nD → PrngReg)
    (m' : (ℓ : Loc Cert.SearchReferenceIdeal.nD Cert.SearchReferenceIdeal.τ Cert.SearchReferenceIdeal.sig) → Buf (Elt Ideal) ℓ) (g' : Dev Cert.SearchReferenceIdeal.nD → PrngReg), Pre_SearchIdeal_points_finite m →
    (∀ c : Dev Cert.SearchIdeal.nD,
      m' ((c.tc : Thread Cert.SearchReferenceIdeal.nD Cert.SearchReferenceIdeal.τ).loc Cert.SearchReferenceIdeal.main_arg0) = m ((c.tc : Thread Cert.SearchIdeal.nD Cert.SearchIdeal.τ).loc Cert.SearchIdeal.main_arg0)
      ∧ m' ((c.tc : Thread Cert.SearchReferenceIdeal.nD Cert.SearchReferenceIdeal.τ).loc Cert.SearchReferenceIdeal.main_arg1) = m ((c.tc : Thread Cert.SearchIdeal.nD Cert.SearchIdeal.τ).loc Cert.SearchIdeal.main_arg1)) →
    ∃ (v0 : (c : Dev Cert.SearchIdeal.nD) → Buf (Elt Ideal) ((c.tc : Thread Cert.SearchIdeal.nD Cert.SearchIdeal.τ).loc Cert.SearchIdeal.main_v3_0)) (v1 : (c : Dev Cert.SearchIdeal.nD) → Buf (Elt Ideal) ((c.tc : Thread Cert.SearchIdeal.nD Cert.SearchIdeal.τ).loc Cert.SearchIdeal.main_v3_1)),
      θ_run (Cert.SearchIdeal.defs (F := Ideal)) (onTc (τ := Cert.SearchIdeal.τ) (Cert.SearchIdeal.main (F := Ideal))) ⟨m, fun _ => 0, g⟩ (fun r => ∀ c : Dev Cert.SearchIdeal.nD,
          r.2.mem ((c.tc : Thread Cert.SearchIdeal.nD Cert.SearchIdeal.τ).loc Cert.SearchIdeal.main_v3_0) = v0 c
          ∧ r.2.mem ((c.tc : Thread Cert.SearchIdeal.nD Cert.SearchIdeal.τ).loc Cert.SearchIdeal.main_v3_1) = v1 c
          ∧ r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
          ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ θ_run (Cert.SearchReferenceIdeal.defs (F := Ideal)) (onTc (τ := Cert.SearchReferenceIdeal.τ) (Cert.SearchReferenceIdeal.main (F := Ideal))) ⟨m', fun _ => 0, g'⟩ (fun r => ∀ c : Dev Cert.SearchReferenceIdeal.nD,
          r.2.mem ((c.tc : Thread Cert.SearchReferenceIdeal.nD Cert.SearchReferenceIdeal.τ).loc Cert.SearchReferenceIdeal.main_indices) = v0 c
          ∧ r.2.mem ((c.tc : Thread Cert.SearchReferenceIdeal.nD Cert.SearchReferenceIdeal.τ).loc Cert.SearchReferenceIdeal.main_v26) = v1 c
          ∧ r.2.mem ((c.tc : Thread Cert.SearchReferenceIdeal.nD Cert.SearchReferenceIdeal.τ).loc Cert.SearchReferenceIdeal.main_arg0) = m' ((c.tc : Thread Cert.SearchReferenceIdeal.nD Cert.SearchReferenceIdeal.τ).loc Cert.SearchReferenceIdeal.main_arg0)
          ∧ r.2.mem ((c.tc : Thread Cert.SearchReferenceIdeal.nD Cert.SearchReferenceIdeal.τ).loc Cert.SearchReferenceIdeal.main_arg1) = m' ((c.tc : Thread Cert.SearchReferenceIdeal.nD Cert.SearchReferenceIdeal.τ).loc Cert.SearchReferenceIdeal.main_arg1))

def preserves_Coarse_CoarseIdeal : Prop :=
  IdealRules.bf16_pair.Statement Cert.CoarseIdeal.S8192x128 Cert.CoarseIdeal.S4096x128
  ∧ IdealRules.bf16_pack.Statement Cert.CoarseIdeal.S4096x128

def algebraic_CoarseIdeal_CoarseReferenceIdeal [hCoarseIdeal : Cert.CoarseIdeal.Facts] [hCoarseReferenceIdeal : Cert.CoarseReferenceIdeal.Facts] : Prop :=
  ∀ (m : (ℓ : Loc Cert.CoarseIdeal.nD Cert.CoarseIdeal.τ Cert.CoarseIdeal.sig) → Buf (Elt Ideal) ℓ) (g : Dev Cert.CoarseIdeal.nD → PrngReg)
    (m' : (ℓ : Loc Cert.CoarseReferenceIdeal.nD Cert.CoarseReferenceIdeal.τ Cert.CoarseReferenceIdeal.sig) → Buf (Elt Ideal) ℓ) (g' : Dev Cert.CoarseReferenceIdeal.nD → PrngReg), Pre_CoarseIdeal m →
    (∀ c : Dev Cert.CoarseIdeal.nD,
      m' ((c.tc : Thread Cert.CoarseReferenceIdeal.nD Cert.CoarseReferenceIdeal.τ).loc Cert.CoarseReferenceIdeal.main_arg0) = m ((c.tc : Thread Cert.CoarseIdeal.nD Cert.CoarseIdeal.τ).loc Cert.CoarseIdeal.main_arg0)
      ∧ m' ((c.tc : Thread Cert.CoarseReferenceIdeal.nD Cert.CoarseReferenceIdeal.τ).loc Cert.CoarseReferenceIdeal.main_arg1) = m ((c.tc : Thread Cert.CoarseIdeal.nD Cert.CoarseIdeal.τ).loc Cert.CoarseIdeal.main_arg1)
      ∧ m' ((c.tc : Thread Cert.CoarseReferenceIdeal.nD Cert.CoarseReferenceIdeal.τ).loc Cert.CoarseReferenceIdeal.main_arg2) = m ((c.tc : Thread Cert.CoarseIdeal.nD Cert.CoarseIdeal.τ).loc Cert.CoarseIdeal.main_arg2)
      ∧ m' ((c.tc : Thread Cert.CoarseReferenceIdeal.nD Cert.CoarseReferenceIdeal.τ).loc Cert.CoarseReferenceIdeal.main_arg3) = m ((c.tc : Thread Cert.CoarseIdeal.nD Cert.CoarseIdeal.τ).loc Cert.CoarseIdeal.main_arg3)
      ∧ m' ((c.tc : Thread Cert.CoarseReferenceIdeal.nD Cert.CoarseReferenceIdeal.τ).loc Cert.CoarseReferenceIdeal.main_arg4) = m ((c.tc : Thread Cert.CoarseIdeal.nD Cert.CoarseIdeal.τ).loc Cert.CoarseIdeal.main_arg4)) →
    ∃ (v0 : (c : Dev Cert.CoarseIdeal.nD) → Buf (Elt Ideal) ((c.tc : Thread Cert.CoarseIdeal.nD Cert.CoarseIdeal.τ).loc Cert.CoarseIdeal.main_v0)),
      θ_run (Cert.CoarseIdeal.defs (F := Ideal)) (onTc (τ := Cert.CoarseIdeal.τ) (Cert.CoarseIdeal.main (F := Ideal))) ⟨m, fun _ => 0, g⟩ (fun r => ∀ c : Dev Cert.CoarseIdeal.nD,
          r.2.mem ((c.tc : Thread Cert.CoarseIdeal.nD Cert.CoarseIdeal.τ).loc Cert.CoarseIdeal.main_v0) = v0 c
          ∧ r.2.mem ((c.tc : Thread Cert.CoarseIdeal.nD Cert.CoarseIdeal.τ).loc Cert.CoarseIdeal.main_arg0) = m ((c.tc : Thread Cert.CoarseIdeal.nD Cert.CoarseIdeal.τ).loc Cert.CoarseIdeal.main_arg0)
          ∧ r.2.mem ((c.tc : Thread Cert.CoarseIdeal.nD Cert.CoarseIdeal.τ).loc Cert.CoarseIdeal.main_arg1) = m ((c.tc : Thread Cert.CoarseIdeal.nD Cert.CoarseIdeal.τ).loc Cert.CoarseIdeal.main_arg1)
          ∧ r.2.mem ((c.tc : Thread Cert.CoarseIdeal.nD Cert.CoarseIdeal.τ).loc Cert.CoarseIdeal.main_arg2) = m ((c.tc : Thread Cert.CoarseIdeal.nD Cert.CoarseIdeal.τ).loc Cert.CoarseIdeal.main_arg2)
          ∧ r.2.mem ((c.tc : Thread Cert.CoarseIdeal.nD Cert.CoarseIdeal.τ).loc Cert.CoarseIdeal.main_arg3) = m ((c.tc : Thread Cert.CoarseIdeal.nD Cert.CoarseIdeal.τ).loc Cert.CoarseIdeal.main_arg3)
          ∧ r.2.mem ((c.tc : Thread Cert.CoarseIdeal.nD Cert.CoarseIdeal.τ).loc Cert.CoarseIdeal.main_arg4) = m ((c.tc : Thread Cert.CoarseIdeal.nD Cert.CoarseIdeal.τ).loc Cert.CoarseIdeal.main_arg4))
      ∧ θ_run (Cert.CoarseReferenceIdeal.defs (F := Ideal)) (onTc (τ := Cert.CoarseReferenceIdeal.τ) (Cert.CoarseReferenceIdeal.main (F := Ideal))) ⟨m', fun _ => 0, g'⟩ (fun r => ∀ c : Dev Cert.CoarseReferenceIdeal.nD,
          r.2.mem ((c.tc : Thread Cert.CoarseReferenceIdeal.nD Cert.CoarseReferenceIdeal.τ).loc Cert.CoarseReferenceIdeal.main_v23) = v0 c
          ∧ r.2.mem ((c.tc : Thread Cert.CoarseReferenceIdeal.nD Cert.CoarseReferenceIdeal.τ).loc Cert.CoarseReferenceIdeal.main_arg0) = m' ((c.tc : Thread Cert.CoarseReferenceIdeal.nD Cert.CoarseReferenceIdeal.τ).loc Cert.CoarseReferenceIdeal.main_arg0)
          ∧ r.2.mem ((c.tc : Thread Cert.CoarseReferenceIdeal.nD Cert.CoarseReferenceIdeal.τ).loc Cert.CoarseReferenceIdeal.main_arg1) = m' ((c.tc : Thread Cert.CoarseReferenceIdeal.nD Cert.CoarseReferenceIdeal.τ).loc Cert.CoarseReferenceIdeal.main_arg1)
          ∧ r.2.mem ((c.tc : Thread Cert.CoarseReferenceIdeal.nD Cert.CoarseReferenceIdeal.τ).loc Cert.CoarseReferenceIdeal.main_arg2) = m' ((c.tc : Thread Cert.CoarseReferenceIdeal.nD Cert.CoarseReferenceIdeal.τ).loc Cert.CoarseReferenceIdeal.main_arg2)
          ∧ r.2.mem ((c.tc : Thread Cert.CoarseReferenceIdeal.nD Cert.CoarseReferenceIdeal.τ).loc Cert.CoarseReferenceIdeal.main_arg3) = m' ((c.tc : Thread Cert.CoarseReferenceIdeal.nD Cert.CoarseReferenceIdeal.τ).loc Cert.CoarseReferenceIdeal.main_arg3)
          ∧ r.2.mem ((c.tc : Thread Cert.CoarseReferenceIdeal.nD Cert.CoarseReferenceIdeal.τ).loc Cert.CoarseReferenceIdeal.main_arg4) = m' ((c.tc : Thread Cert.CoarseReferenceIdeal.nD Cert.CoarseReferenceIdeal.τ).loc Cert.CoarseReferenceIdeal.main_arg4))

def preserves_Fine_FineIdeal : Prop :=
  IdealRules.bf16_pair.Statement Cert.FineIdeal.S4096x128 Cert.FineIdeal.S2048x128

def algebraic_FineIdeal_FineReferenceIdeal [hFineIdeal : Cert.FineIdeal.Facts] [hFineReferenceIdeal : Cert.FineReferenceIdeal.Facts] : Prop :=
  ∀ (m : (ℓ : Loc Cert.FineIdeal.nD Cert.FineIdeal.τ Cert.FineIdeal.sig) → Buf (Elt Ideal) ℓ) (g : Dev Cert.FineIdeal.nD → PrngReg)
    (m' : (ℓ : Loc Cert.FineReferenceIdeal.nD Cert.FineReferenceIdeal.τ Cert.FineReferenceIdeal.sig) → Buf (Elt Ideal) ℓ) (g' : Dev Cert.FineReferenceIdeal.nD → PrngReg), Pre_FineIdeal m →
    (∀ c : Dev Cert.FineIdeal.nD,
      m' ((c.tc : Thread Cert.FineReferenceIdeal.nD Cert.FineReferenceIdeal.τ).loc Cert.FineReferenceIdeal.main_arg0) = m ((c.tc : Thread Cert.FineIdeal.nD Cert.FineIdeal.τ).loc Cert.FineIdeal.main_arg0)
      ∧ m' ((c.tc : Thread Cert.FineReferenceIdeal.nD Cert.FineReferenceIdeal.τ).loc Cert.FineReferenceIdeal.main_arg1) = m ((c.tc : Thread Cert.FineIdeal.nD Cert.FineIdeal.τ).loc Cert.FineIdeal.main_arg1)
      ∧ m' ((c.tc : Thread Cert.FineReferenceIdeal.nD Cert.FineReferenceIdeal.τ).loc Cert.FineReferenceIdeal.main_arg2) = m ((c.tc : Thread Cert.FineIdeal.nD Cert.FineIdeal.τ).loc Cert.FineIdeal.main_arg2)
      ∧ m' ((c.tc : Thread Cert.FineReferenceIdeal.nD Cert.FineReferenceIdeal.τ).loc Cert.FineReferenceIdeal.main_arg3) = m ((c.tc : Thread Cert.FineIdeal.nD Cert.FineIdeal.τ).loc Cert.FineIdeal.main_arg3)
      ∧ m' ((c.tc : Thread Cert.FineReferenceIdeal.nD Cert.FineReferenceIdeal.τ).loc Cert.FineReferenceIdeal.main_arg4) = m ((c.tc : Thread Cert.FineIdeal.nD Cert.FineIdeal.τ).loc Cert.FineIdeal.main_arg4)
      ∧ m' ((c.tc : Thread Cert.FineReferenceIdeal.nD Cert.FineReferenceIdeal.τ).loc Cert.FineReferenceIdeal.main_arg5) = m ((c.tc : Thread Cert.FineIdeal.nD Cert.FineIdeal.τ).loc Cert.FineIdeal.main_arg5)
      ∧ m' ((c.tc : Thread Cert.FineReferenceIdeal.nD Cert.FineReferenceIdeal.τ).loc Cert.FineReferenceIdeal.main_arg6) = m ((c.tc : Thread Cert.FineIdeal.nD Cert.FineIdeal.τ).loc Cert.FineIdeal.main_arg6)
      ∧ m' ((c.tc : Thread Cert.FineReferenceIdeal.nD Cert.FineReferenceIdeal.τ).loc Cert.FineReferenceIdeal.main_arg7) = m ((c.tc : Thread Cert.FineIdeal.nD Cert.FineIdeal.τ).loc Cert.FineIdeal.main_arg7)
      ∧ m' ((c.tc : Thread Cert.FineReferenceIdeal.nD Cert.FineReferenceIdeal.τ).loc Cert.FineReferenceIdeal.main_arg8) = m ((c.tc : Thread Cert.FineIdeal.nD Cert.FineIdeal.τ).loc Cert.FineIdeal.main_arg8)) →
    ∃ (v0 : (c : Dev Cert.FineIdeal.nD) → Buf (Elt Ideal) ((c.tc : Thread Cert.FineIdeal.nD Cert.FineIdeal.τ).loc Cert.FineIdeal.main_v0)) (v1 : (c : Dev Cert.FineIdeal.nD) → Buf (Elt Ideal) ((c.tc : Thread Cert.FineIdeal.nD Cert.FineIdeal.τ).loc Cert.FineIdeal.main_arg0)) (v2 : (c : Dev Cert.FineIdeal.nD) → Buf (Elt Ideal) ((c.tc : Thread Cert.FineIdeal.nD Cert.FineIdeal.τ).loc Cert.FineIdeal.main_arg1)),
      θ_run (Cert.FineIdeal.defs (F := Ideal)) (onTc (τ := Cert.FineIdeal.τ) (Cert.FineIdeal.main (F := Ideal))) ⟨m, fun _ => 0, g⟩ (fun r => ∀ c : Dev Cert.FineIdeal.nD,
          r.2.mem ((c.tc : Thread Cert.FineIdeal.nD Cert.FineIdeal.τ).loc Cert.FineIdeal.main_v0) = v0 c
          ∧ r.2.mem ((c.tc : Thread Cert.FineIdeal.nD Cert.FineIdeal.τ).loc Cert.FineIdeal.main_arg0) = v1 c
          ∧ r.2.mem ((c.tc : Thread Cert.FineIdeal.nD Cert.FineIdeal.τ).loc Cert.FineIdeal.main_arg1) = v2 c
          ∧ r.2.mem ((c.tc : Thread Cert.FineIdeal.nD Cert.FineIdeal.τ).loc Cert.FineIdeal.main_arg0) = m ((c.tc : Thread Cert.FineIdeal.nD Cert.FineIdeal.τ).loc Cert.FineIdeal.main_arg0)
          ∧ r.2.mem ((c.tc : Thread Cert.FineIdeal.nD Cert.FineIdeal.τ).loc Cert.FineIdeal.main_arg1) = m ((c.tc : Thread Cert.FineIdeal.nD Cert.FineIdeal.τ).loc Cert.FineIdeal.main_arg1)
          ∧ r.2.mem ((c.tc : Thread Cert.FineIdeal.nD Cert.FineIdeal.τ).loc Cert.FineIdeal.main_arg2) = m ((c.tc : Thread Cert.FineIdeal.nD Cert.FineIdeal.τ).loc Cert.FineIdeal.main_arg2)
          ∧ r.2.mem ((c.tc : Thread Cert.FineIdeal.nD Cert.FineIdeal.τ).loc Cert.FineIdeal.main_arg3) = m ((c.tc : Thread Cert.FineIdeal.nD Cert.FineIdeal.τ).loc Cert.FineIdeal.main_arg3)
          ∧ r.2.mem ((c.tc : Thread Cert.FineIdeal.nD Cert.FineIdeal.τ).loc Cert.FineIdeal.main_arg4) = m ((c.tc : Thread Cert.FineIdeal.nD Cert.FineIdeal.τ).loc Cert.FineIdeal.main_arg4)
          ∧ r.2.mem ((c.tc : Thread Cert.FineIdeal.nD Cert.FineIdeal.τ).loc Cert.FineIdeal.main_arg5) = m ((c.tc : Thread Cert.FineIdeal.nD Cert.FineIdeal.τ).loc Cert.FineIdeal.main_arg5)
          ∧ r.2.mem ((c.tc : Thread Cert.FineIdeal.nD Cert.FineIdeal.τ).loc Cert.FineIdeal.main_arg6) = m ((c.tc : Thread Cert.FineIdeal.nD Cert.FineIdeal.τ).loc Cert.FineIdeal.main_arg6)
          ∧ r.2.mem ((c.tc : Thread Cert.FineIdeal.nD Cert.FineIdeal.τ).loc Cert.FineIdeal.main_arg7) = m ((c.tc : Thread Cert.FineIdeal.nD Cert.FineIdeal.τ).loc Cert.FineIdeal.main_arg7)
          ∧ r.2.mem ((c.tc : Thread Cert.FineIdeal.nD Cert.FineIdeal.τ).loc Cert.FineIdeal.main_arg8) = m ((c.tc : Thread Cert.FineIdeal.nD Cert.FineIdeal.τ).loc Cert.FineIdeal.main_arg8))
      ∧ θ_run (Cert.FineReferenceIdeal.defs (F := Ideal)) (onTc (τ := Cert.FineReferenceIdeal.τ) (Cert.FineReferenceIdeal.main (F := Ideal))) ⟨m', fun _ => 0, g'⟩ (fun r => ∀ c : Dev Cert.FineReferenceIdeal.nD,
          r.2.mem ((c.tc : Thread Cert.FineReferenceIdeal.nD Cert.FineReferenceIdeal.τ).loc Cert.FineReferenceIdeal.main_v29) = v0 c
          ∧ r.2.mem ((c.tc : Thread Cert.FineReferenceIdeal.nD Cert.FineReferenceIdeal.τ).loc Cert.FineReferenceIdeal.main_arg0) = v1 c
          ∧ r.2.mem ((c.tc : Thread Cert.FineReferenceIdeal.nD Cert.FineReferenceIdeal.τ).loc Cert.FineReferenceIdeal.main_arg1) = v2 c
          ∧ r.2.mem ((c.tc : Thread Cert.FineReferenceIdeal.nD Cert.FineReferenceIdeal.τ).loc Cert.FineReferenceIdeal.main_arg0) = m' ((c.tc : Thread Cert.FineReferenceIdeal.nD Cert.FineReferenceIdeal.τ).loc Cert.FineReferenceIdeal.main_arg0)
          ∧ r.2.mem ((c.tc : Thread Cert.FineReferenceIdeal.nD Cert.FineReferenceIdeal.τ).loc Cert.FineReferenceIdeal.main_arg1) = m' ((c.tc : Thread Cert.FineReferenceIdeal.nD Cert.FineReferenceIdeal.τ).loc Cert.FineReferenceIdeal.main_arg1)
          ∧ r.2.mem ((c.tc : Thread Cert.FineReferenceIdeal.nD Cert.FineReferenceIdeal.τ).loc Cert.FineReferenceIdeal.main_arg2) = m' ((c.tc : Thread Cert.FineReferenceIdeal.nD Cert.FineReferenceIdeal.τ).loc Cert.FineReferenceIdeal.main_arg2)
          ∧ r.2.mem ((c.tc : Thread Cert.FineReferenceIdeal.nD Cert.FineReferenceIdeal.τ).loc Cert.FineReferenceIdeal.main_arg3) = m' ((c.tc : Thread Cert.FineReferenceIdeal.nD Cert.FineReferenceIdeal.τ).loc Cert.FineReferenceIdeal.main_arg3)
          ∧ r.2.mem ((c.tc : Thread Cert.FineReferenceIdeal.nD Cert.FineReferenceIdeal.τ).loc Cert.FineReferenceIdeal.main_arg4) = m' ((c.tc : Thread Cert.FineReferenceIdeal.nD Cert.FineReferenceIdeal.τ).loc Cert.FineReferenceIdeal.main_arg4)
          ∧ r.2.mem ((c.tc : Thread Cert.FineReferenceIdeal.nD Cert.FineReferenceIdeal.τ).loc Cert.FineReferenceIdeal.main_arg5) = m' ((c.tc : Thread Cert.FineReferenceIdeal.nD Cert.FineReferenceIdeal.τ).loc Cert.FineReferenceIdeal.main_arg5)
          ∧ r.2.mem ((c.tc : Thread Cert.FineReferenceIdeal.nD Cert.FineReferenceIdeal.τ).loc Cert.FineReferenceIdeal.main_arg6) = m' ((c.tc : Thread Cert.FineReferenceIdeal.nD Cert.FineReferenceIdeal.τ).loc Cert.FineReferenceIdeal.main_arg6)
          ∧ r.2.mem ((c.tc : Thread Cert.FineReferenceIdeal.nD Cert.FineReferenceIdeal.τ).loc Cert.FineReferenceIdeal.main_arg7) = m' ((c.tc : Thread Cert.FineReferenceIdeal.nD Cert.FineReferenceIdeal.τ).loc Cert.FineReferenceIdeal.main_arg7)
          ∧ r.2.mem ((c.tc : Thread Cert.FineReferenceIdeal.nD Cert.FineReferenceIdeal.τ).loc Cert.FineReferenceIdeal.main_arg8) = m' ((c.tc : Thread Cert.FineReferenceIdeal.nD Cert.FineReferenceIdeal.τ).loc Cert.FineReferenceIdeal.main_arg8))

def Claim : Prop :=
  ∃ (hKernel : Cert.Kernel.Facts) (hKernelIdeal : Cert.KernelIdeal.Facts) (hReferenceIdeal : Cert.ReferenceIdeal.Facts) (hReference : Cert.Reference.Facts) (hSearch : Cert.Search.Facts) (hSearchIdeal : Cert.SearchIdeal.Facts) (hSearchReferenceIdeal : Cert.SearchReferenceIdeal.Facts) (hCoarse : Cert.Coarse.Facts) (hCoarseIdeal : Cert.CoarseIdeal.Facts) (hCoarseReferenceIdeal : Cert.CoarseReferenceIdeal.Facts) (hFine : Cert.Fine.Facts) (hFineIdeal : Cert.FineIdeal.Facts) (hFineReferenceIdeal : Cert.FineReferenceIdeal.Facts) (hPre_idx_in_range : Cert.Pre_idx_in_range.Facts) (hPre_points_finite : Cert.Pre_points_finite.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ quiescent_Reference (hReference := hReference) (hPre_idx_in_range := hPre_idx_in_range)
    ∧ quiescent_Search (hSearch := hSearch)
    ∧ quiescent_SearchIdeal (hSearchIdeal := hSearchIdeal)
    ∧ quiescent_SearchIdeal_pre_points_finite (hSearchIdeal := hSearchIdeal) (hPre_points_finite := hPre_points_finite)
    ∧ quiescent_SearchReferenceIdeal (hSearchReferenceIdeal := hSearchReferenceIdeal)
    ∧ quiescent_SearchReferenceIdeal_pre_points_finite (hSearchReferenceIdeal := hSearchReferenceIdeal) (hPre_points_finite := hPre_points_finite)
    ∧ quiescent_Coarse (hCoarse := hCoarse)
    ∧ quiescent_CoarseIdeal (hCoarseIdeal := hCoarseIdeal)
    ∧ quiescent_CoarseReferenceIdeal (hCoarseReferenceIdeal := hCoarseReferenceIdeal)
    ∧ quiescent_Fine (hFine := hFine)
    ∧ quiescent_FineIdeal (hFineIdeal := hFineIdeal)
    ∧ quiescent_FineReferenceIdeal (hFineReferenceIdeal := hFineReferenceIdeal)
    ∧ preserves_Kernel_KernelIdeal
    ∧ algebraic_KernelIdeal_ReferenceIdeal (hKernelIdeal := hKernelIdeal) (hReferenceIdeal := hReferenceIdeal) (hPre_idx_in_range := hPre_idx_in_range)
    ∧ bitexact_Kernel_Reference (hKernel := hKernel) (hReference := hReference) (hPre_idx_in_range := hPre_idx_in_range)
    ∧ preserves_Search_SearchIdeal
    ∧ algebraic_SearchIdeal_SearchReferenceIdeal_pre_points_finite (hSearchIdeal := hSearchIdeal) (hSearchReferenceIdeal := hSearchReferenceIdeal) (hPre_points_finite := hPre_points_finite)
    ∧ preserves_Coarse_CoarseIdeal
    ∧ algebraic_CoarseIdeal_CoarseReferenceIdeal (hCoarseIdeal := hCoarseIdeal) (hCoarseReferenceIdeal := hCoarseReferenceIdeal)
    ∧ preserves_Fine_FineIdeal
    ∧ algebraic_FineIdeal_FineReferenceIdeal (hFineIdeal := hFineIdeal) (hFineReferenceIdeal := hFineReferenceIdeal)
-- ==== Pre_idx_in_range.lean ====
abbrev S4096x128 : Shape := ⟨2, ![4096, 128]⟩
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S4096x128 .f32) (main_arg1 : IVec S16384x3 32) : IVec S_ 1 :=
  let main_c : IVec S_ 32 := constantI S_ 32 0#32
  let main_v0 : IVec S16384x3 32 := broadcastInDim S16384x3 ![] bcast_S_S16384x3 main_c
  let main_v1 : IVec S16384x3 1 := cmpi .sge main_arg1 main_v0
  let main_c_0 : IVec S_ 1 := constantI S_ 1 1#1
  let main_v2 : IVec S_ 1 := (fun x v => Host.reduce IntOp.andi x v reducesTo_S16384x3_S_d0_1 h_S_) main_v1 main_c_0
  let main_c_1 : IVec S_ 32 := constantI S_ 32 4096#32
  let main_v3 : IVec S16384x3 32 := broadcastInDim S16384x3 ![] bcast_S_S16384x3 main_c_1
  let main_v4 : IVec S16384x3 1 := cmpi .slt main_arg1 main_v3
  let main_c_2 : IVec S_ 1 := constantI S_ 1 1#1
  let main_v5 : IVec S_ 1 := (fun x v => Host.reduce IntOp.andi x v reducesTo_S16384x3_S_d0_1 h_S_) main_v4 main_c_2
  let main_v6 : IVec S_ 1 := andi main_v2 main_v5
  main_v6
-- ==== Pre_points_finite.lean ====
abbrev S16384x3 : Shape := ⟨2, ![16384, 3]⟩
abbrev S4096x3 : Shape := ⟨2, ![4096, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S4096x3 : S_.BroadcastsInDim S4096x3 (![] : Fin 0 → Fin S4096x3.rank)
  reducesTo_S4096x3_S_d0_1 : S4096x3.ReducesTo [0, 1] S_

variable [Facts]

def fn {F : FTy → Type} [FloatOps F] (main_arg0 : FVec F S16384x3 .f32) (main_arg1 : FVec F S4096x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  main_v8
-- ==== Kernel.lean ====
abbrev S4096x128 : Shape := ⟨2, ![4096, 128]⟩
abbrev S16384x3 : Shape := ⟨2, ![16384, 3]⟩
abbrev S3x16384 : Shape := ⟨2, ![3, 16384]⟩
abbrev S1x49152 : Shape := ⟨2, ![1, 49152]⟩
abbrev S49152x128 : Shape := ⟨2, ![49152, 128]⟩
abbrev S2x1x384 : Shape := ⟨3, ![2, 1, 384]⟩
abbrev S2 : Shape := ⟨1, ![2]⟩
abbrev S2x384x128 : Shape := ⟨3, ![2, 384, 128]⟩
abbrev S1x1x384 : Shape := ⟨3, ![1, 1, 384]⟩
abbrev S1x384 : Shape := ⟨2, ![1, 384]⟩
abbrev S1 : Shape := ⟨1, ![1]⟩
abbrev S_ : Shape := ⟨0, ![]⟩
abbrev S1x384x128 : Shape := ⟨3, ![1, 384, 128]⟩
abbrev S384x128 : Shape := ⟨2, ![384, 128]⟩
abbrev S384 : Shape := ⟨1, ![384]⟩

abbrev nBuf : Table → Nat
  | .hbm => 5
  | .local .scVector .vmem => 2
  | _ => 0

abbrev bufTy : (tb : Table) → Fin (nBuf tb) → BufTy
  | .hbm, ⟨0, _⟩ => ⟨S4096x128, .f32⟩
  | .hbm, ⟨1, _⟩ => ⟨S16384x3, .i32⟩
  | .hbm, ⟨2, _⟩ => ⟨S3x16384, .i32⟩
  | .hbm, ⟨3, _⟩ => ⟨S1x49152, .i32⟩
  | .hbm, ⟨4, _⟩ => ⟨S49152x128, .f32⟩
  | .local .scVector .vmem, ⟨0, _⟩ => ⟨S2x1x384, .i32⟩
  | .local .scVector .vmem, ⟨1, _⟩ => ⟨S2x384x128, .f32⟩
  | _, _ => ⟨S4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c384_i32_r0 : BitVec 32 := 384#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v22_r0 : BitVec 32 := Scalar.muli c384_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c4_i32_27_r0 : BitVec 32 := 4#32
  let v32_r0 : BitVec 32 := Scalar.addi c0_i32_26_r0 c4_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_68_r0 : BitVec 32 := 3#32
  let v83_r0 : BitVec 1 := Scalar.cmpi .sge arg5_r0 c3_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c384_i32_100_r0 : BitVec 32 := 384#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v76_r0 : BitVec 32 := Scalar.addi v75_r0 v4
  let v145_r0 : BitVec 32 := Scalar.muli c384_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c384_i32_99_r0 : BitVec 32 := 384#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v144_r0 : BitVec 32 := Scalar.muli c384_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x384x128.size a ≤ S2x384x128.size a)
theorem k0_off10_inb : ∀ (arg8_r0 : BitVec 32) (k0_hw2 : k0_chk2 arg8_r0), ∀ a, (k0_off10 arg8_r0) a + S1x384x128.size a ≤ S2x384x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x384.size a ≤ S2x1x384.size a)
theorem k0_off11_inb : ∀ (arg7_r0 : BitVec 32) (k0_hw3 : k0_chk3 arg7_r0), ∀ a, (k0_off11 arg7_r0) a + S1x1x384.size a ≤ S2x1x384.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_55_r0 : BitVec 32 := 3#32
  let v65_r0 : BitVec 1 := Scalar.cmpi .eq arg5_r0 c3_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c384_i32_100_r0 : BitVec 32 := 384#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v145_r0 : BitVec 32 := Scalar.muli c384_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c384_i32_100_r0 : BitVec 32 := 384#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v71_r0 : BitVec 32 := Scalar.addi v70_r0 v4
  let v145_r0 : BitVec 32 := Scalar.muli c384_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x384.size a ≤ S2x1x384.size a) ∧
  (∀ (k0_h1 : k0_cond1 i k0_t1 arg10_r0 = 1#1), ∀ a, (k0_off5 i arg10_r0) a + S1x384.size a ≤ S1x49152.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x384.size a ≤ S2x1x384.size a) ∧
  (∀ (k0_h2 : k0_cond2 i k0_t1 arg10_r0 = 1#1), ∀ a, (k0_off8 i arg10_r0) a + S1x384.size a ≤ S1x49152.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x384x128.size a ≤ S2x384x128.size a) ∧
  (∀ (k0_h5 : k0_cond5 i k0_t1 arg10_r0 = 1#1), ∀ a, (k0_off13 i arg10_r0) a + S384x128.size a ≤ S49152x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x384x128.size a ≤ S2x384x128.size a) ∧
  (∀ (k0_h7 : k0_cond7 i k0_t1 arg10_r0 = 1#1), ∀ a, (k0_off16 i arg10_r0) a + S384x128.size a ≤ S49152x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x384.size a ≤ S2x1x384.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x384.size a ≤ S1x49152.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x384.size a ≤ S2x1x384.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x384.size a ≤ S1x49152.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x384x128.size a ≤ S2x384x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S384x128.size a ≤ S49152x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x384x128.size a ≤ S2x384x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S384x128.size a ≤ S49152x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c384_i32_47_r0 : BitVec 32 := 384#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c3_i32_33_r0 : BitVec 32 := 3#32
  let v37_r0 : BitVec 32 := Scalar.select v36_r0 c3_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v38_r0 : BitVec 32 := Scalar.addi v37_r0 v4
  let v55_r0 : BitVec 32 := Scalar.muli c384_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S384x128.size a ≤ S49152x128.size a)
theorem k0_off19_inb : ∀ (i : grid0.Coords) (v33_4_r0 : BitVec 32) (k0_hw5 : k0_chk5 i v33_4_r0), ∀ a, (k0_off19 i v33_4_r0) a + S384x128.size a ≤ S49152x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x384x128.size a ≤ S2x384x128.size a) ∧
  (∀ a, (k0_off20 v33_3_r0) a + S1.size a ≤ S2.size a) ∧
  (∀ a, (k0_off21 v33_3_r0) a + S1x384x128.size a ≤ S2x384x128.size a)
theorem k0_off18_inb : ∀ (v33_3_r0 : BitVec 32) (k0_hw4 : k0_chk4 v33_3_r0), ∀ a, (k0_off18 v33_3_r0) a + S1x384x128.size a ≤ S2x384x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x384x128.size a ≤ S2x384x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x128 : Shape := ⟨2, ![4096, 128]⟩
abbrev S16384x3 : Shape := ⟨2, ![16384, 3]⟩
abbrev S_ : Shape := ⟨0, ![]⟩
abbrev S16384x3x1 : Shape := ⟨3, ![16384, 3, 1]⟩
abbrev S1 : Shape := ⟨1, ![1]⟩
abbrev S1x1x1 : Shape := ⟨3, ![1, 1, 1]⟩
abbrev S16384x3x128 : Shape := ⟨3, ![16384, 3, 128]⟩
abbrev S3x16384x128 : Shape := ⟨3, ![3, 16384, 128]⟩
abbrev S49152x128 : Shape := ⟨2, ![49152, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S16384x3, .i32⟩
  | .hbm, ⟨2, _⟩ => ⟨S_, .i32⟩
  | .hbm, ⟨3, _⟩ => ⟨S16384x3, .i32⟩
  | .hbm, ⟨4, _⟩ => ⟨S16384x3, .i1⟩
  | .hbm, ⟨5, _⟩ => ⟨S_, .i32⟩
  | .hbm, ⟨6, _⟩ => ⟨S16384x3, .i32⟩
  | .hbm, ⟨7, _⟩ => ⟨S16384x3, .i32⟩
  | .hbm, ⟨8, _⟩ => ⟨S16384x3, .i32⟩
  | .hbm, ⟨9, _⟩ => ⟨S16384x3x1, .i32⟩
  | .hbm, ⟨10, _⟩ => ⟨S1, .i32⟩
  | .hbm, ⟨11, _⟩ => ⟨S_, .i32⟩
  | .hbm, ⟨12, _⟩ => ⟨S16384x3x1, .i32⟩
  | .hbm, ⟨13, _⟩ => ⟨S16384x3x1, .i1⟩
  | .hbm, ⟨14, _⟩ => ⟨S1x1x1, .i32⟩
  | .hbm, ⟨15, _⟩ => ⟨S16384x3x1, .i32⟩
  | .hbm, ⟨16, _⟩ => ⟨S16384x3x1, .i1⟩
  | .hbm, ⟨17, _⟩ => ⟨S16384x3x1, .i1⟩
  | .hbm, ⟨18, _⟩ => ⟨S_, .i1⟩
  | .hbm, ⟨19, _⟩ => ⟨S16384x3, .i1⟩
  | .hbm, ⟨20, _⟩ => ⟨S16384x3x128, .f32⟩
  | .hbm, ⟨21, _⟩ => ⟨S16384x3x128, .i1⟩
  | .hbm, ⟨22, _⟩ => ⟨S_, .f32⟩
  | .hbm, ⟨23, _⟩ => ⟨S16384x3x128, .f32⟩
  | .hbm, ⟨24, _⟩ => ⟨S16384x3x128, .f32⟩
  | .hbm, ⟨25, _⟩ => ⟨S3x16384x128, .f32⟩
  | .hbm, ⟨26, _⟩ => ⟨S49152x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Search.lean ====
abbrev S16384x3 : Shape := ⟨2, ![16384, 3]⟩
abbrev S4096x3 : Shape := ⟨2, ![4096, 3]⟩
abbrev S3x4096 : Shape := ⟨2, ![3, 4096]⟩
abbrev S4096 : Shape := ⟨1, ![4096]⟩
abbrev S1x4096 : Shape := ⟨2, ![1, 4096]⟩
abbrev S2048x3 : Shape := ⟨2, ![2048, 3]⟩
abbrev S2048 : Shape := ⟨1, ![2048]⟩
abbrev S2048x1 : Shape := ⟨2, ![2048, 1]⟩
abbrev S2048x4096 : Shape := ⟨2, ![2048, 4096]⟩

abbrev nBuf : Space → Nat
  | .hbm => 7
  | .vmem => 8
  | .smem => 0
  | _ => 0

abbrev bufTy : (tb : Table) → Fin (tcTables nBuf tb) → BufTy
  | .hbm, ⟨0, _⟩ => ⟨S16384x3, .f32⟩
  | .hbm, ⟨1, _⟩ => ⟨S4096x3, .f32⟩
  | .hbm, ⟨2, _⟩ => ⟨S3x4096, .f32⟩
  | .hbm, ⟨3, _⟩ => ⟨S4096, .f32⟩
  | .hbm, ⟨4, _⟩ => ⟨S1x4096, .f32⟩
  | .hbm, ⟨5, _⟩ => ⟨S16384x3, .i32⟩
  | .hbm, ⟨6, _⟩ => ⟨S16384x3, .f32⟩
  | .local _ .vmem, ⟨0, _⟩ => ⟨S2048x3, .f32⟩
  | .local _ .vmem, ⟨1, _⟩ => ⟨S2048x3, .f32⟩
  | .local _ .vmem, ⟨2, _⟩ => ⟨S3x4096, .f32⟩
  | .local _ .vmem, ⟨3, _⟩ => ⟨S1x4096, .f32⟩
  | .local _ .vmem, ⟨4, _⟩ => ⟨S2048x3, .i32⟩
  | .local _ .vmem, ⟨5, _⟩ => ⟨S2048x3, .i32⟩
  | .local _ .vmem, ⟨6, _⟩ => ⟨S2048x3, .f32⟩
  | .local _ .vmem, ⟨7, _⟩ => ⟨S2048x3, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x3 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SearchReferenceIdeal.lean ====
abbrev S16384x3 : Shape := ⟨2, ![16384, 3]⟩
abbrev S4096x3 : Shape := ⟨2, ![4096, 3]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩
abbrev S3x4096 : Shape := ⟨2, ![3, 4096]⟩

abbrev nBuf : Space → Nat
  | .hbm => 38
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S4096x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x3, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S3x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x3, .f32⟩
  | .hbm, ⟨21, _⟩ => ⟨S16384x3, .i32⟩
  | .hbm, ⟨22, _⟩ => ⟨S16384x3, .f32⟩
  | .hbm, ⟨23, _⟩ => ⟨S_, .f32⟩
  | .hbm, ⟨24, _⟩ => ⟨S16384x3, .f32⟩
  | .hbm, ⟨25, _⟩ => ⟨S16384x3, .f32⟩
  | .hbm, ⟨26, _⟩ => ⟨S16384x3, .f32⟩
  | .hbm, ⟨27, _⟩ => ⟨S_, .f32⟩
  | .hbm, ⟨28, _⟩ => ⟨S16384x3, .f32⟩
  | .hbm, ⟨29, _⟩ => ⟨S16384x3, .f32⟩
  | .hbm, ⟨30, _⟩ => ⟨S_, .f32⟩
  | .hbm, ⟨31, _⟩ => ⟨S16384x3, .f32⟩
  | .hbm, ⟨32, _⟩ => ⟨S16384x3, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x3, .f32⟩
  | .hbm, ⟨37, _⟩ => ⟨S16384x3, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Coarse.lean ====
abbrev S4096x512 : Shape := ⟨2, ![4096, 512]⟩
abbrev S512 : Shape := ⟨1, ![512]⟩
abbrev S512x256 : Shape := ⟨2, ![512, 256]⟩
abbrev S256 : Shape := ⟨1, ![256]⟩
abbrev S8192x128 : Shape := ⟨2, ![8192, 128]⟩
abbrev S4096 : Shape := ⟨1, ![4096]⟩
abbrev S4096x1 : Shape := ⟨2, ![4096, 1]⟩
abbrev S1x512 : Shape := ⟨2, ![1, 512]⟩
abbrev S4096x256 : Shape := ⟨2, ![4096, 256]⟩
abbrev S1x256 : Shape := ⟨2, ![1, 256]⟩
abbrev S4096x128 : Shape := ⟨2, ![4096, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S8192x128, .bf16⟩
  | .local _ .vmem, ⟨0, _⟩ => ⟨S4096x512, .f32⟩
  | .local _ .vmem, ⟨1, _⟩ => ⟨S512, .f32⟩
  | .local _ .vmem, ⟨2, _⟩ => ⟨S512, .f32⟩
  | .local _ .vmem, ⟨3, _⟩ => ⟨S512x256, .f32⟩
  | .local _ .vmem, ⟨4, _⟩ => ⟨S256, .f32⟩
  | .local _ .vmem, ⟨5, _⟩ => ⟨S8192x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [BitOps F]

abbrev grid0 : Pipeline.Grid := .none

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== CoarseIdeal.lean ====
variable {F : FTy → Type} [FloatOps F]
-- ==== CoarseReferenceIdeal.lean ====
abbrev S4096x512 : Shape := ⟨2, ![4096, 512]⟩
abbrev S512 : Shape := ⟨1, ![512]⟩
abbrev S512x256 : Shape := ⟨2, ![512, 256]⟩
abbrev S256 : Shape := ⟨1, ![256]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S4096x256 : Shape := ⟨2, ![4096, 256]⟩
abbrev S1x256 : Shape := ⟨2, ![1, 256]⟩
abbrev S8192x128 : Shape := ⟨2, ![8192, 128]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512, .f32⟩
  | .hbm, ⟨2, _⟩ => ⟨S512, .f32⟩
  | .hbm, ⟨3, _⟩ => ⟨S512x256, .f32⟩
  | .hbm, ⟨4, _⟩ => ⟨S256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .i32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x512, .f32⟩
  | .hbm, ⟨42, _⟩ => ⟨S4096x512, .f32⟩
  | .hbm, ⟨43, _⟩ => ⟨S1x512, .f32⟩
  | .hbm, ⟨44, _⟩ => ⟨S4096x512, .f32⟩
  | .hbm, ⟨45, _⟩ => ⟨S4096x512, .f32⟩
  | .hbm, ⟨46, _⟩ => ⟨S1x512, .f32⟩
  | .hbm, ⟨47, _⟩ => ⟨S4096x512, .f32⟩
  | .hbm, ⟨48, _⟩ => ⟨S4096x512, .f32⟩
  | .hbm, ⟨49, _⟩ => ⟨S4096x256, .f32⟩
  | .hbm, ⟨50, _⟩ => ⟨S1x256, .f32⟩
  | .hbm, ⟨51, _⟩ => ⟨S4096x256, .f32⟩
  | .hbm, ⟨52, _⟩ => ⟨S4096x256, .f32⟩
  | .hbm, ⟨53, _⟩ => ⟨S4096x256, .bf16⟩
  | .hbm, ⟨54, _⟩ => ⟨S8192x128, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩

abbrev nD : Nat := 1
abbrev τ : Topo := Topo.v7x

variable {F : FTy → Type} [FloatOps F]
-- ==== Fine.lean ====
abbrev S16384x3 : Shape := ⟨2, ![16384, 3]⟩
abbrev S1 : Shape := ⟨1, ![1]⟩
abbrev S16384x256 : Shape := ⟨2, ![16384, 256]⟩
abbrev S256 : Shape := ⟨1, ![256]⟩
abbrev S256x256 : Shape := ⟨2, ![256, 256]⟩
abbrev S98304x128 : Shape := ⟨2, ![98304, 128]⟩
abbrev S2048x256 : Shape := ⟨2, ![2048, 256]⟩
abbrev S2048x3 : Shape := ⟨2, ![2048, 3]⟩
abbrev S4096x128 : Shape := ⟨2, ![4096, 128]⟩
abbrev S2048 : Shape := ⟨1, ![2048]⟩
abbrev S2048x1 : Shape := ⟨2, ![2048, 1]⟩
abbrev S1x256 : Shape := ⟨2, ![1, 256]⟩
abbrev S2048x128 : Shape := ⟨2, ![2048, 128]⟩

abbrev nBuf : Space → Nat
  | .hbm => 10
  | .vmem => 16
  | .smem => 0
  | _ => 0

abbrev bufTy : (tb : Table) → Fin (tcTables nBuf tb) → BufTy
  | .hbm, ⟨0, _⟩ => ⟨S16384x3, .f32⟩
  | .hbm, ⟨1, _⟩ => ⟨S1, .i32⟩
  | .hbm, ⟨2, _⟩ => ⟨S16384x256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16384x3, .f32⟩
  | .hbm, ⟨8, _⟩ => ⟨S98304x128, .bf16⟩
  | .hbm, ⟨9, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S2048x3, .f32⟩
  | .local _ .vmem, ⟨7, _⟩ => ⟨S2048x3, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S2048x256, .f32⟩
  | .local _ .vmem, ⟨15, _⟩ => ⟨S2048x256, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FineIdeal.lean ====
variable {F : FTy → Type} [FloatOps F]
-- ==== FineReferenceIdeal.lean ====
abbrev S16384x3 : Shape := ⟨2, ![16384, 3]⟩
abbrev S1 : Shape := ⟨1, ![1]⟩
abbrev S16384x256 : Shape := ⟨2, ![16384, 256]⟩
abbrev S256 : Shape := ⟨1, ![256]⟩
abbrev S256x256 : Shape := ⟨2, ![256, 256]⟩
abbrev S98304x128 : Shape := ⟨2, ![98304, 128]⟩
abbrev S3x16384x256 : Shape := ⟨3, ![3, 16384, 256]⟩
abbrev S3x16384 : Shape := ⟨2, ![3, 16384]⟩
abbrev S3x16384x1 : Shape := ⟨3, ![3, 16384, 1]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 66
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S1, .i32⟩
  | .hbm, ⟨2, _⟩ => ⟨S16384x256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S16384x3, .f32⟩
  | .hbm, ⟨8, _⟩ => ⟨S98304x128, .bf16⟩
  | .hbm, ⟨9, _⟩ => ⟨S98304x128, .f32⟩
  | .hbm, ⟨10, _⟩ => ⟨S3x16384x256, .f32⟩
  | .hbm, ⟨11, _⟩ => ⟨S3x16384, .f32⟩
  | .hbm, ⟨12, _⟩ => ⟨S3x16384x1, .f32⟩
  | .hbm, ⟨13, _⟩ => ⟨S3x16384x256, .f32⟩
  | .hbm, ⟨14, _⟩ => ⟨S3x16384x256, .f32⟩
  | .hbm, ⟨15, _⟩ => ⟨S_, .f32⟩
  | .hbm, ⟨16, _⟩ => ⟨S16384x256, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .i32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S_, .i1⟩
  | .hbm, ⟨43, _⟩ => ⟨S_, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x256, .f32⟩
  | .hbm, ⟨48, _⟩ => ⟨S16384x256, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x256, .f32⟩
  | .hbm, ⟨54, _⟩ => ⟨S16384x256, .f32⟩
  | .hbm, ⟨55, _⟩ => ⟨S1x256, .f32⟩
  | .hbm, ⟨56, _⟩ => ⟨S16384x256, .f32⟩
  | .hbm, ⟨57, _⟩ => ⟨S16384x256, .f32⟩
  | .hbm, ⟨58, _⟩ => ⟨S1x256, .f32⟩
  | .hbm, ⟨59, _⟩ => ⟨S16384x256, .f32⟩
  | .hbm, ⟨60, _⟩ => ⟨S16384x256, .f32⟩
  | .hbm, ⟨61, _⟩ => ⟨S16384x256, .f32⟩
  | .hbm, ⟨62, _⟩ => ⟨S1x256, .f32⟩
  | .hbm, ⟨63, _⟩ => ⟨S16384x256, .f32⟩
  | .hbm, ⟨64, _⟩ => ⟨S16384x256, .f32⟩
  | .hbm, ⟨65, _⟩ => ⟨S16384x256, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_2 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩

abbrev nD : Nat := 1
abbrev τ : Topo := Topo.v7x

variable {F : FTy → Type} [FloatOps F]
-- ==== Proof.Search.Pick.lean ====
/-
  The search of one row, free of the program: from a row `d` of distances, take the least entry and the first column
  that holds it, put the top in that column, and repeat, three times. On a row of reals these are the first three of
  the row's stable ascending sort.
-/
module

public import Idealize.ShloMosaic.Lib.SortPrefix
public import Idealize.ShloMosaic.PureOps.Ideal
public import Mathlib.Data.Finset.Fold
public import Mathlib.Order.Interval.Finset.Fin
public import Mathlib.Data.Finset.Lattice.Fold

@[expose] public section

noncomputable section

namespace Cert.Proof.Search

open Idealize.ShloMosaic

/-- Column `j` as the extended real the column row holds. -/
def col {n : ℕ} (j : Fin n) : EReal := ((j.val : ℝ) : EReal)

theorem col_inj {n : ℕ} {i j : Fin n} : col i = col j ↔ i = j := by
  simp [col, Fin.ext_iff]

theorem col_le {n : ℕ} {i j : Fin n} : col i ≤ col j ↔ i ≤ j := by
  simp [col]

/-- The least entry of the row. -/
def low {n : ℕ} (d : Fin n → EReal) : EReal := Finset.univ.fold min ⊤ d

/-- The least column that holds the least entry; `C` stands where a column does not. -/
def lowCol {n : ℕ} (C : EReal) (d : Fin n → EReal) : EReal :=
  Finset.univ.fold min ⊤ fun j => if d j = low d then col j else C

/-- The row with the top in the columns equal to `c`. -/
def without {n : ℕ} (c : EReal) (d : Fin n → EReal) : Fin n → EReal := fun j => if col j = c then ⊤ else d j

/-- `p` is the first of the least columns. -/
def Leads {n : ℕ} (d : Fin n → EReal) (p : Fin n) : Prop := ∀ q, d p < d q ∨ d p = d q ∧ p ≤ q

theorem exists_leads {n : ℕ} (hn : 0 < n) (d : Fin n → EReal) : ∃ p, Leads d p := by
  haveI : Nonempty (Fin n) := ⟨⟨0, hn⟩⟩
  obtain ⟨p, hp⟩ := Finite.exists_min fun j : Fin n => toLex (d j, j)
  exact ⟨p, fun q => Prod.Lex.toLex_le_toLex.mp (hp q)⟩

theorem Leads.le {n : ℕ} {d : Fin n → EReal} {p : Fin n} (h : Leads d p) (q : Fin n) : d p ≤ d q :=
  (h q).elim le_of_lt fun e => e.1.le

theorem Leads.low_eq {n : ℕ} {d : Fin n → EReal} {p : Fin n} (h : Leads d p) : low d = d p :=
  le_antisymm (Finset.fold_min_le _ |>.mpr (Or.inr ⟨p, Finset.mem_univ p, le_rfl⟩))
    (Finset.le_fold_min _ |>.mpr ⟨le_top, fun q _ => h.le q⟩)

theorem Leads.lowCol_eq {n : ℕ} {d : Fin n → EReal} {p : Fin n} (h : Leads d p) {C : EReal} (hC : col p ≤ C) :
    lowCol C d = col p := by
  unfold lowCol
  rw [h.low_eq]
  refine le_antisymm (Finset.fold_min_le _ |>.mpr (Or.inr ⟨p, Finset.mem_univ p, by rw [if_pos rfl]⟩))
    (Finset.le_fold_min _ |>.mpr ⟨le_top, fun q _ => ?_⟩)
  split
  · next e =>
    rcases h q with hlt | ⟨_, hle⟩
    · exact absurd e hlt.ne'
    · exact col_le.mpr hle
  · exact hC

theorem without_col {n : ℕ} (p : Fin n) (d : Fin n → EReal) (j : Fin n) :
    without (col p) d j = if j = p then ⊤ else d j := by
  unfold without
  by_cases e : j = p
  · rw [if_pos e, if_pos (col_inj.mpr e)]
  · rw [if_neg e, if_neg fun h => e (col_inj.mp h)]

/-- The three picks of a row: different columns, each leading what is left. -/
structure Picks {n : ℕ} (d : Fin n → EReal) (p₀ p₁ p₂ : Fin n) : Prop where
  ne₁ : p₁ ≠ p₀
  ne₂ : p₂ ≠ p₀
  ne₂' : p₂ ≠ p₁
  first : Leads d p₀
  second : ∀ q, q ≠ p₀ → d p₁ < d q ∨ d p₁ = d q ∧ p₁ ≤ q
  third : ∀ q, q ≠ p₀ → q ≠ p₁ → d p₂ < d q ∨ d p₂ = d q ∧ p₂ ≤ q

theorem exists_other {n : ℕ} (hn : 2 < n) (a b : Fin n) : ∃ q : Fin n, q ≠ a ∧ q ≠ b := by
  have hcard : ({a, b} : Finset (Fin n)).card < (Finset.univ : Finset (Fin n)).card :=
    lt_of_le_of_lt (Finset.card_le_two) (by rw [Finset.card_fin]; exact hn)
  obtain ⟨q, _, hq⟩ := Finset.exists_mem_notMem_of_card_lt_card hcard
  rw [Finset.mem_insert, Finset.mem_singleton, not_or] at hq
  exact ⟨q, hq⟩

/-- A row of entries below the top has three picks, and the rounds of the search find them. -/
theorem exists_picks {n : ℕ} (hn : 2 < n) (C : EReal) (hC : ∀ j : Fin n, col j ≤ C) (d : Fin n → EReal)
    (hd : ∀ j, d j ≠ ⊤) :
    ∃ p₀ p₁ p₂ : Fin n, Picks d p₀ p₁ p₂
      ∧ low d = d p₀ ∧ lowCol C d = col p₀
      ∧ low (without (lowCol C d) d) = d p₁ ∧ lowCol C (without (lowCol C d) d) = col p₁
      ∧ low (without (lowCol C (without (lowCol C d) d)) (without (lowCol C d) d)) = d p₂
      ∧ lowCol C (without (lowCol C (without (lowCol C d) d)) (without (lowCol C d) d)) = col p₂ := by
  obtain ⟨p₀, h₀⟩ := exists_leads (by omega) d
  have c₀ := h₀.lowCol_eq (hC p₀)
  rw [c₀]
  obtain ⟨p₁, h₁⟩ := exists_leads (by omega) (without (col p₀) d)
  have c₁ := h₁.lowCol_eq (hC p₁)
  rw [c₁]
  obtain ⟨p₂, h₂⟩ := exists_leads (by omega) (without (col p₁) (without (col p₀) d))
  have c₂ := h₂.lowCol_eq (hC p₂)
  have ne₁ : p₁ ≠ p₀ := fun e => by
    obtain ⟨q, hq, _⟩ := exists_other hn p₀ p₀
    have := h₁.le q
    rw [without_col, without_col, if_pos e, if_neg hq, top_le_iff] at this
    exact hd q this
  have both : p₂ ≠ p₀ ∧ p₂ ≠ p₁ := by
    obtain ⟨q, hq, hq'⟩ := exists_other hn p₀ p₁
    have := h₂.le q
    rw [without_col, without_col, without_col, without_col, if_neg hq', if_neg hq] at this
    refine ⟨fun e => ?_, fun e => ?_⟩
    · rw [if_pos e, ite_self, top_le_iff] at this
      exact hd q this
    · rw [if_pos e, top_le_iff] at this
      exact hd q this
  refine ⟨p₀, p₁, p₂, ⟨ne₁, both.1, both.2, h₀, fun q hq => ?_, fun q hq hq' => ?_⟩, h₀.low_eq, rfl, ?_, rfl, ?_, c₂⟩
  · have := h₁ q
    rwa [without_col, without_col, if_neg ne₁, if_neg hq] at this
  · have := h₂ q
    rwa [without_col, without_col, without_col, without_col, if_neg both.1, if_neg both.2, if_neg hq, if_neg hq'] at this
  · rw [h₁.low_eq, without_col, if_neg ne₁]
  · rw [h₂.low_eq, without_col, without_col, if_neg both.1, if_neg both.2]

/-! ## The stable sort -/

/-- Two relations that agree on every later element set against an earlier one sort an increasing list alike. -/
theorem stableSort_eq_of_increasing {n : ℕ} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_eq_of_later {n : ℕ} (R R' : Fin n → Fin n → Bool) (h : ∀ a b, a < b → R b a = R' b a) (k : Fin n) :
    sortedFrom R k = sortedFrom R' k := by
  have e : sortPositions n R = sortPositions n R' :=
    stableSort_eq_of_increasing R R' h _ (List.pairwise_lt_finRange n)
  unfold sortedFrom
  simp only [List.get_eq_getElem, e, Fin.val_cast]

/-- The first three of the row's stable ascending sort are its picks. -/
theorem Picks.sortedFrom_eq {n : ℕ} {d : Fin n → EReal} {p₀ p₁ p₂ : Fin n} (h : Picks d p₀ p₁ p₂) (hn : 3 ≤ n)
    (k : Fin 3) : sortedFrom (fun i j : Fin n => decide (d i < d j)) (k.castLE hn) = ![p₀, p₁, p₂] k := by
  classical
  let B : Fin n → Fin n → Bool := fun i j => decide (d i < d j) || (decide (d i = d j) && decide (i < j))
  have hB : StrictTotalBefore B :=
    StrictTotalBefore.of_key_then_position (fun a b : EReal => decide (a < b)) d (fun a => by simp)
      (fun a b c hab hbc => by
        simp only [decide_eq_true_eq] at hab hbc ⊢
        exact hab.trans hbc)
      (fun a b => by
        simp only [decide_eq_true_eq]
        exact lt_trichotomy a b)
  have notB : ∀ {p q : Fin n}, (d p < d q ∨ d p = d q ∧ p ≤ q) → B q p = false := fun {p q} hpq => by
    rcases hpq with hlt | ⟨e, hle⟩
    · simp [B, hlt.le, hlt.ne']
    · simp [B, e, hle]
  rw [sortedFrom_eq_of_later _ B fun a b hab => by simp [B, hab.le]]
  refine hB.sortedFrom_eq_of_prefix hn ![p₀, p₁, p₂] (fun i j hij => ?_) (fun i j hij => ?_) (fun i p hp => ?_) k
  · fin_cases i <;> fin_cases j <;> first
      | rfl
      | exact absurd hij h.ne₁
      | exact absurd hij h.ne₁.symm
      | exact absurd hij h.ne₂
      | exact absurd hij h.ne₂.symm
      | exact absurd hij h.ne₂'
      | exact absurd hij h.ne₂'.symm
  · fin_cases i <;> fin_cases j <;> first
      | exact absurd hij (by decide)
      | exact notB (h.first _)
      | exact notB (h.second _ h.ne₂)
  · have q₀ : p ≠ p₀ := fun e => hp 0 e.symm
    have q₁ : p ≠ p₁ := fun e => hp 1 e.symm
    fin_cases i
    · exact notB (h.first _)
    · exact notB (h.second _ q₀)
    · exact notB (h.third _ q₀ q₁)

end Cert.Proof.Search

end
-- ==== Proof.Search.Block.lean ====
/-
  What the body of the search leaves for one row of a block: the column numbers and the weights, as functions of the
  row's distances.
-/
module

public import proofs.«01_k».proof.Proof.Gen.SearchIdeal.Value
public import proofs.«01_k».proof.Proof.Search.Pick
public import Idealize.ShloMosaic.Lib.Pointwise

@[expose] public section

set_option maxRecDepth 16384

noncomputable section

namespace Cert.Proof.Search

open Cert.SearchIdeal Cert.SearchIdeal.Gen Idealize.ShloMosaic

/-! ## The constants -/

theorem ofBits_top : Ideal.ofBits .f32 0x7F800000#32 = ⊤ := by
  simp [Ideal.ofBits, Ideal.ieee]

theorem ofBits_two : Ideal.ofBits .f32 0x40000000#32 = ((2 : ℝ) : EReal) := by
  simp [Ideal.ofBits, Ideal.ieee]
  rw [← EReal.coe_mul]
  norm_num

/-- The number one past the last column. -/
abbrev past : EReal := Ideal.ofBits .f32 0x45800000#32

theorem past_eq : past = ((4096 : ℝ) : EReal) := by
  simp [past, Ideal.ofBits, Ideal.ieee]
  rw [← EReal.coe_mul]
  norm_num

theorem col_le_past (j : Fin 4096) : col j ≤ past := by
  rw [past_eq]
  exact EReal.coe_le_coe_iff.mpr (by exact_mod_cast j.isLt.le)

theorem select_ofBool {α : Type} (p : Prop) [Decidable p] (x y : α) :
    Scalar.select (BitVec.ofBool (decide p)) x y = if p then x else y := by
  by_cases h : p <;> simp [Scalar.select, h]

/-! ## One row's mathematics -/

/-- The squared distance of two points, as |s|² + |y|² − 2 s·y. -/
def dist2 (s y : Fin 3 → EReal) : EReal :=
  ∑ k, s k * s k + ∑ k, y k * y k - Ideal.ofBits .f32 0x40000000#32 * ∑ k, s k * y k

/-- The inverse of the distance, from the squared distance. -/
def inv (v : EReal) : EReal :=
  Ideal.div 1 (Ideal.sqrt (max v 0) + Ideal.ofBits .f32 0x322BCC77#32)

/-- What is left of the row after one pick and after two. -/
def left₁ (d : Fin 4096 → EReal) : Fin 4096 → EReal := without (lowCol past d) d
def left₂ (d : Fin 4096 → EReal) : Fin 4096 → EReal := without (lowCol past (left₁ d)) (left₁ d)

/-- The row's three column numbers, as words. -/
def words (d : Fin 4096 → EReal) : Fin 3 → BitVec 32 :=
  ![Ideal.fptosi 32 (lowCol past d), Ideal.fptosi 32 (lowCol past (left₁ d)), Ideal.fptosi 32 (lowCol past (left₂ d))]

/-- The row's three inverse distances. -/
def invs (d : Fin 4096 → EReal) : Fin 3 → EReal := ![inv (low d), inv (low (left₁ d)), inv (low (left₂ d))]

/-! ## The payloads at a row -/

variable (X : Vec Ideal S2048x3 .f32) (Y : Vec Ideal S3x4096 .f32) (C : Vec Ideal S1x4096 .f32)

/-- Row `r`'s distances to the block's points. -/
def row (r : Fin 2048) : Fin 4096 → EReal := fun j => dist2 (fun k => X (ix2 r k)) fun k => Y (ix2 k j)

theorem pay3_apply (r : Fin 2048) (j : Fin 4096) : k0_pay3 (F := Ideal) X Y (ix2 r j) = row X Y r j := by
  pointwise [k0_pay3, row, dist2]

theorem pay5_apply (r : Fin 2048) : k0_pay5 (F := Ideal) X Y (ix2 r 0) = low (row X Y r) := by
  pointwise [k0_pay5]
  rw [ofBits_top]
  simp only [pay3_apply]
  rfl

variable (hC : ∀ j : Fin 4096, C (ix2 0 j) = col j)
include hC

theorem pay6_apply (r : Fin 2048) : k0_pay6 (F := Ideal) X Y C (ix2 r 0) = lowCol past (row X Y r) := by
  pointwise [k0_pay6, k0_pay4]
  rw [ofBits_top]
  simp only [pay3_apply, pay5_apply, hC]
  rfl

theorem pay8_apply (r : Fin 2048) (j : Fin 4096) : k0_pay8 (F := Ideal) X Y C (ix2 r j) = left₁ (row X Y r) j := by
  pointwise [k0_pay8, k0_pay4]
  rw [ofBits_top]
  simp only [pay3_apply, pay6_apply X Y C hC, hC]
  rfl

theorem pay9_apply (r : Fin 2048) : k0_pay9 (F := Ideal) X Y C (ix2 r 0) = low (left₁ (row X Y r)) := by
  pointwise [k0_pay9]
  rw [ofBits_top]
  simp only [pay8_apply X Y C hC]
  rfl

theorem pay7_apply (r : Fin 2048) :
    k0_pay7 (F := Ideal) X Y C (ix2 r 0) = Ideal.fptosi 32 (lowCol past (row X Y r)) := by
  pointwise [k0_pay7]
  rw [pay6_apply X Y C hC]
  rfl

theorem pay10_apply (r : Fin 2048) (j : Fin 4096) :
    k0_pay10 (F := Ideal) X Y C (ix2 r j)
      = BitVec.ofBool (decide (left₁ (row X Y r) j = low (left₁ (row X Y r)))) := by
  pointwise [k0_pay10]
  rw [pay8_apply X Y C hC, pay9_apply X Y C hC]

omit hC in
theorem pay4_apply (j : Fin 4096) : k0_pay4 (F := Ideal) C (ix2 0 j) = C (ix2 0 j) := by
  pointwise [k0_pay4]

omit hC in
theorem pay11_apply (j : Fin 4096) : k0_pay11 (F := Ideal) C (ix2 0 j) = C (ix2 0 j) := by
  pointwise [k0_pay11, k0_pay4]

omit hC in
theorem pay17_apply (V : Vec Ideal S2048x1 .f32) (r : Fin 2048) : k0_pay17 (F := Ideal) V (ix2 r 0) = inv (V (ix2 r 0)) := by
  pointwise [k0_pay17, inv]

omit hC in
theorem pay18_apply (V : Vec Ideal S2048x1 .f32) (r : Fin 2048) : k0_pay18 (F := Ideal) V (ix2 r 0) = inv (V (ix2 r 0)) := by
  pointwise [k0_pay18, inv]

omit hC

/-! ## The second part of the body, from what the first part hands it -/

section second

variable (K L : Vec Ideal S1x4096 .f32) (D : Vec Ideal S2048x4096 .f32) (M : IVec S2048x4096 1)
  (P Q : Vec Ideal S2048x1 .f32) (r : Fin 2048) (d : Fin 4096 → EReal)
  (hK : ∀ j : Fin 4096, K (ix2 0 j) = col j) (hL : ∀ j : Fin 4096, L (ix2 0 j) = col j)
  (hD : ∀ j : Fin 4096, D (ix2 r j) = d j) (hM : ∀ j : Fin 4096, M (ix2 r j) = BitVec.ofBool (decide (d j = low d)))

include hL hM

theorem pay12_apply : k0_pay12 (F := Ideal) M past L (ix2 r 0) = lowCol past d := by
  pointwise [k0_pay12]
  rw [ofBits_top]
  simp only [hM, hL, select_ofBool]
  rfl

theorem pay13_apply : k0_pay13 (F := Ideal) M past L (ix2 r 0) = Ideal.fptosi 32 (lowCol past d) := by
  pointwise [k0_pay13]
  rw [pay12_apply L M r d hL hM]
  rfl

include hK hD

theorem pay14_apply (j : Fin 4096) :
    k0_pay14 (F := Ideal) K D M past L (ix2 r j) = without (lowCol past d) d j := by
  pointwise [k0_pay14]
  rw [ofBits_top, pay12_apply L M r d hL hM, hK, hD]
  rfl

theorem pay15_apply : k0_pay15 (F := Ideal) K D M past L (ix2 r 0) = low (without (lowCol past d) d) := by
  pointwise [k0_pay15]
  rw [ofBits_top]
  simp only [pay14_apply K L D M r d hK hL hD hM]
  rfl

theorem pay16_apply :
    k0_pay16 (F := Ideal) K D M past L (ix2 r 0) = Ideal.fptosi 32 (lowCol past (without (lowCol past d) d)) := by
  pointwise [k0_pay16]
  rw [ofBits_top]
  simp only [pay14_apply K L D M r d hK hL hD hM, pay15_apply K L D M r d hK hL hD hM, hK]
  rfl

theorem pay19_apply : k0_pay19 (F := Ideal) K D M past L (ix2 r 0) = inv (low (without (lowCol past d) d)) := by
  have e : k0_pay19 (F := Ideal) K D M past L = k0_pay18 (F := Ideal) (k0_pay15 (F := Ideal) K D M past L) := rfl
  rw [e, pay18_apply, pay15_apply K L D M r d hK hL hD hM]

theorem pay20_apply :
    k0_pay20 (F := Ideal) K P D Q M past L (ix2 r 0)
      = inv (P (ix2 r 0)) + inv (Q (ix2 r 0)) + inv (low (without (lowCol past d) d)) := by
  have e : k0_pay20 (F := Ideal) K P D Q M past L
      = addf (addf (k0_pay17 (F := Ideal) P) (k0_pay18 (F := Ideal) Q)) (k0_pay19 (F := Ideal) K D M past L) := rfl
  rw [e, ← pay17_apply, ← pay18_apply, ← pay19_apply K L D M r d hK hL hD hM]
  exact rfl

theorem pay21_apply :
    k0_pay21 (F := Ideal) K P D Q M past L (ix2 r 0)
      = Ideal.div (inv (P (ix2 r 0))) (inv (P (ix2 r 0)) + inv (Q (ix2 r 0)) + inv (low (without (lowCol past d) d))) := by
  have e : k0_pay21 (F := Ideal) K P D Q M past L
      = divf (k0_pay17 (F := Ideal) P) (k0_pay20 (F := Ideal) K P D Q M past L) := rfl
  rw [e, ← pay20_apply K L D M P Q r d hK hL hD hM, ← pay17_apply]
  exact rfl

end second

/-! ## What is stored -/

theorem pay1_apply (A B E : IVec S2048x1 32) (r : Fin 2048) (k : Fin 3) :
    k0_pay1 A B E (ix2 r k) = ![A (ix2 r 0), B (ix2 r 0), E (ix2 r 0)] k := by
  pointwise [k0_pay1]
  fin_cases k <;> rfl

theorem pay2_apply (A B W E : Vec Ideal S2048x1 .f32) (r : Fin 2048) (k : Fin 3) :
    k0_pay2 (F := Ideal) A B W E (ix2 r k)
      = ![E (ix2 r 0), Ideal.div (A (ix2 r 0)) (W (ix2 r 0)), Ideal.div (B (ix2 r 0)) (W (ix2 r 0))] k := by
  pointwise [k0_pay2]
  fin_cases k <;> rfl

theorem origin : (![0, 0] : Fin 2 → Nat) = fun _ => 0 := funext fun a => by fin_cases a <;> rfl

variable (hC : ∀ j : Fin 4096, C (ix2 0 j) = col j)
include hC

/-- The column numbers stored for row `r`. -/
theorem out3_apply (r : Fin 2048) (k : Fin 3) : out0_3 (F := Ideal) X Y C (ix2 r k) = words (row X Y r) k := by
  unfold_out out0_3
  rw [View.canon_unit_zero origin, View.ld_unit_zero origin, View.ld_unit_zero origin, View.ld_unit_zero origin,
    Ideal.ofBits_def, pay1_apply, pay7_apply X Y C hC,
    pay13_apply (k0_pay11 (F := Ideal) C) (k0_pay10 (F := Ideal) X Y C) r (left₁ (row X Y r))
      (fun j => (pay11_apply C j).trans (hC j)) (pay10_apply X Y C hC r),
    pay16_apply (k0_pay4 (F := Ideal) C) (k0_pay11 (F := Ideal) C) (k0_pay8 (F := Ideal) X Y C)
      (k0_pay10 (F := Ideal) X Y C) r (left₁ (row X Y r))
      (fun j => (pay4_apply C j).trans (hC j)) (fun j => (pay11_apply C j).trans (hC j)) (pay8_apply X Y C hC r)
      (pay10_apply X Y C hC r)]
  rfl

/-- The weights stored for row `r`. -/
theorem out4_apply (r : Fin 2048) (k : Fin 3) :
    out0_4 (F := Ideal) X Y C (ix2 r k) = Ideal.div (invs (row X Y r) k) (∑ k, invs (row X Y r) k) := by
  have hK := fun j => (pay4_apply C j).trans (hC j)
  have hL := fun j => (pay11_apply C j).trans (hC j)
  have hD := pay8_apply X Y C hC r
  have hM := pay10_apply X Y C hC r
  unfold_out out0_4
  rw [View.canon_unit_zero origin, View.ld_unit_zero origin, View.ld_unit_zero origin, View.ld_unit_zero origin,
    Ideal.ofBits_def, pay2_apply, pay18_apply, pay9_apply X Y C hC,
    pay19_apply _ _ _ _ r _ hK hL hD hM, pay20_apply _ _ _ _ _ _ r _ hK hL hD hM,
    pay21_apply _ _ _ _ _ _ r _ hK hL hD hM, pay5_apply, pay9_apply X Y C hC, Fin.sum_univ_three]
  fin_cases k <;> rfl

end Cert.Proof.Search

end
-- ==== Proof.Search.Arrays.lean ====
/-
  The search's two result arrays after the run, element by element: row R is the body's row over the squared distances of
  source point R to the 4096 support points.
-/
module

public import proofs.«01_k».proof.Proof.Gen.SearchIdeal.Value
public import proofs.«01_k».proof.Proof.Search.Block
public import Idealize.ShloMosaic.Lib.Pipeline.ValueKit
public import Idealize.ShloMosaic.Lib.Pointwise

@[expose] public section

set_option maxRecDepth 16384

noncomputable section

namespace Cert.Proof.Search

open Cert.SearchIdeal Cert.SearchIdeal.Gen Cert.SearchIdeal.Value Idealize.ShloMosaic Idealize.ShloMosaic.TcCoe

/-- The squared distances of source point `R` to the support points. -/
def dists (S : Vec Ideal S16384x3 .f32) (Y : Vec Ideal S4096x3 .f32) (R : Fin 16384) : Fin 4096 → EReal :=
  fun j => dist2 (fun k => S (ix2 R k)) fun k => Y (ix2 j k)

variable (m : (ℓ : Loc nD τ sig) → Buf (Elt Ideal) ℓ) (c : Dev nD)

theorem idx : ∀ t : Fin grid0.N, win0_0.index t = ![(t : ℕ), 0] ∧ win0_1.index t = ![0, 0] ∧ win0_2.index t = ![0, 0]
    ∧ win0_3.index t = ![(t : ℕ), 0] ∧ win0_4.index t = ![(t : ℕ), 0] := by decide +kernel

theorem sitofp_col (n : ℕ) (h : n < 4096) : FloatOps.sitofp (F := Ideal) .f32 (BitVec.ofNat 32 n) = ((n : ℝ) : EReal) := by
  show (((BitVec.ofNat 32 n).toInt : ℝ) : EReal) = _
  have e : (BitVec.ofNat 32 n).toInt = (n : ℤ) := by
    rw [BitVec.toInt_eq_toNat_cond, BitVec.toNat_ofNat]; omega
  rw [e]; norm_cast

/-- The columns' numbers, as the host hands them to the launch. -/
theorem cols (t : Fin cfg0.N) (j : Fin 4096) : iblk m c 2 t (ix2 (0 : Fin 1) j) = col j := by
  blk_simp [iblk, idx t]
  entry_read
  pointwise
  have e : (((View.whole main_v2).slice (win0_2.rect t)).emb (ix2 0 j) 1 : ℕ) = j := by
    blk_simp [idx t]
  rw [e]
  exact sitofp_col j j.isLt

theorem supports (t : Fin cfg0.N) (k : Fin 3) (j : Fin 4096) :
    iblk m c 1 t (ix2 k j) = m ((c : Thread nD τ).loc main_arg1) (ix2 j k) := by
  blk_simp [iblk, idx t]
  entry_read
  pointwise
  blk_ext [iblk, idx t]

theorem points (t : Fin cfg0.N) (r : Fin 2048) (k : Fin 3) (R : Fin 16384) (hR : (R : ℕ) = t * 2048 + r) :
    iblk m c 0 t (ix2 r k) = m ((c : Thread nD τ).loc main_arg0) (ix2 R k) := by
  blk_simp [iblk, idx t]
  rw [V_main_arg0]
  blk_ext [iblk, idx t]

theorem row_eq (t : Fin cfg0.N) (r : Fin 2048) (R : Fin 16384) (hR : (R : ℕ) = t * 2048 + r) :
    row (iblk m c 0 t) (iblk m c 1 t) r
      = dists (m ((c : Thread nD τ).loc main_arg0)) (m ((c : Thread nD τ).loc main_arg1)) R := by
  funext j
  simp only [row, dists]
  congr 1
  · funext k; exact points m c t r k R hR
  · funext k; exact supports m c t k j

/-- The neighbours' numbers. -/
theorem arr3 : (dats m 0 c).arrAt 3 (cfgs 0).N = fun i : S16384x3.Idx =>
    words (dists (m ((c : Thread nD τ).loc main_arg0)) (m ((c : Thread nD τ).loc main_arg1)) (i 0)) (i 1) := by
  refine (dats m 0 c).arrAt_eq_of_covers 3 _ (by decide +kernel) fun t hf y => ?_
  blk_simp
  rw [after0_3]
  idx_vars y
  have e0 : (((View.whole main_v3_0).slice (win0_3.rect t)).emb (ix2 y0 y1) 0 : ℕ) = t * 2048 + y0 := by
    blk_simp [idx t]
  have e1 : ((View.whole main_v3_0).slice (win0_3.rect t)).emb (ix2 y0 y1) 1 = y1 := Fin.ext (by blk_simp [idx t])
  rw [out3_apply _ _ _ (cols m c t), row_eq m c t y0 _ e0, e1]

/-- The weights. -/
theorem arr4 : (dats m 0 c).arrAt 4 (cfgs 0).N = fun i : S16384x3.Idx =>
    Ideal.div (invs (dists (m ((c : Thread nD τ).loc main_arg0)) (m ((c : Thread nD τ).loc main_arg1)) (i 0)) (i 1))
      (∑ k, invs (dists (m ((c : Thread nD τ).loc main_arg0)) (m ((c : Thread nD τ).loc main_arg1)) (i 0)) k) := by
  refine (dats m 0 c).arrAt_eq_of_covers 4 _ (by decide +kernel) fun t hf y => ?_
  blk_simp
  rw [after0_4]
  idx_vars y
  have e0 : (((View.whole main_v3_1).slice (win0_4.rect t)).emb (ix2 y0 y1) 0 : ℕ) = t * 2048 + y0 := by
    blk_simp [idx t]
  have e1 : ((View.whole main_v3_1).slice (win0_4.rect t)).emb (ix2 y0 y1) 1 = y1 := Fin.ext (by blk_simp [idx t])
  rw [out4_apply _ _ _ (cols m c t), row_eq m c t y0 _ e0, e1]

end Cert.Proof.Search

end
-- ==== Proof.Search.Reference.lean ====
/-
  The search's reference at an index: the three smallest distances of a row by the library's sort, and the weights made of
  their inverses.
-/
module

public import proofs.«01_k».proof.Proof.Gen.SearchReferenceIdeal.Run
public import proofs.«01_k».proof.Proof.Search.Arrays
public import Idealize.ShloMosaic.Lib.Pointwise

@[expose] public section

set_option maxRecDepth 16384

noncomputable section

namespace Cert.Proof.Search

open Cert.SearchReferenceIdeal Cert.SearchReferenceIdeal.Facts₀ Cert.SearchReferenceIdeal.Facts Idealize.ShloMosaic

/-! ## `top_k` at an index -/

/-- The place of the k-th pick in the row. -/
def place (x : FVec Ideal S16384x4096 .f32) (R : Fin 16384) (k : Fin 3) : Fin 4096 :=
  sortedFrom (fun i j => FloatOps.cmpfTotal (F := Ideal) .gt (x (ix2 R i)) (x (ix2 R j)) == 1#1) (k.castLE (by decide : 3 ≤ 4096))

theorem along_ix2 (R : Fin 16384) (i p : Fin 4096) (h : 1 < 2) :
    Shape.Idx.along (s := S16384x4096) (ix2 R i) ⟨1, h⟩ p = ix2 R p := by
  funext a
  match a with
  | ⟨0, _⟩ => rfl
  | ⟨1, _⟩ => rfl
  | ⟨_ + 2, h⟩ => exact absurd h (Nat.not_lt.2 (Nat.le_add_left _ _))

theorem slice_ix2 (h : S16384x4096.Slices (fun _ => 0) S16384x3) (R : Fin 16384) (k : Fin 3) :
    (fun a => ⟨0 + (ix2 R k (Fin.cast h.1.symm a) : ℕ),
      Nat.lt_of_lt_of_le (Nat.add_lt_add_left (ix2 R k (Fin.cast h.1.symm a)).isLt _) (h.2 a)⟩ : S16384x4096.Idx)
      = ix2 R (k.castLE (by decide : 3 ≤ 4096)) := by
  funext a
  match a with
  | ⟨0, _⟩ => exact Fin.ext (Nat.zero_add _)
  | ⟨1, _⟩ => exact Fin.ext (Nat.zero_add _)
  | ⟨_ + 2, h⟩ => exact absurd h (Nat.not_lt.2 (Nat.le_add_left _ _))

/-- A stable sort along the columns, read at `I`, from the row's own order. -/
theorem sort_at (x : FVec Ideal S16384x4096 .f32) (R : Fin 16384) (k : Fin 3) (I : S16384x4096.Idx)
    (hI : I = ix2 R (k.castLE (by decide : 3 ≤ 4096))) (h : 1 < S16384x4096.rank) :
    I.along ⟨1, h⟩ (sortedFrom (fun i j =>
        FloatOps.cmpfTotal (F := Ideal) .gt (x (I.along ⟨1, h⟩ i)) (x (I.along ⟨1, h⟩ j)) == 1#1) (I ⟨1, h⟩)) = ix2 R (place x R k) := by
  have f : ∀ p, I.along ⟨1, h⟩ p = ix2 R p := fun p => by rw [hI]; exact along_ix2 R _ p h
  have g : I ⟨1, h⟩ = k.castLE (by decide : 3 ≤ 4096) := by rw [hI]; rfl
  rw [g, f]
  simp only [f]
  rfl

theorem topK_fst (x : FVec Ideal S16384x4096 .f32) (h) (R : Fin 16384) (k : Fin 3) :
    (Host.topK S16384x3 1 (FloatOps.cmpfTotal (F := Ideal) .gt) x h).1 (ix2 R k) = x (ix2 R (place x R k)) :=
  congrArg x (sort_at x R k _ (slice_ix2 h R k) (by decide))

/-- The column's number at an index, as the operation spells it. -/
def number (i : S16384x4096.Idx) : BitVec 32 := if hd : 1 < S16384x4096.rank then iotaInDim S16384x4096 32 ⟨1, hd⟩ i else 0#32

theorem number_ix2 (R : Fin 16384) (p : Fin 4096) : number (ix2 R p) = BitVec.ofNat 32 p := by
  unfold number
  rw [dif_pos (by decide)]
  rfl

theorem topK_snd (x : FVec Ideal S16384x4096 .f32) (h) (R : Fin 16384) (k : Fin 3) :
    (Host.topK S16384x3 1 (FloatOps.cmpfTotal (F := Ideal) .gt) x h).2 (ix2 R k) = BitVec.ofNat 32 (place x R k) := by
  refine Eq.trans ?_ (number_ix2 R (place x R k))
  exact congrArg number (sort_at x R k _ (slice_ix2 h R k) (by decide))

/-! ## The whole reference -/

/-- The squared distances, negated, as the reference writes them. -/
def negDists [Facts] (S : FVec Ideal S16384x3 .f32) (Y : FVec Ideal S4096x3 .f32) : FVec Ideal S16384x4096 .f32 :=
  Host.negf (subf (addf (broadcastInDim S16384x4096 ![0, 1] bcast_S16384x1_S16384x4096_0_1 (broadcastInDim S16384x1 ![0] bcast_S16384_S16384x1_0 (Host.reduceAdd (mulf S S) (constant S_ .f32 0x00000000#32) reducesTo_S16384x3_S16384_d1 h_S_))) (broadcastInDim S16384x4096 ![0, 1] bcast_S1x4096_S16384x4096_0_1 (broadcastInDim S1x4096 ![1] bcast_S4096_S1x4096_1 (Host.reduceAdd (mulf Y Y) (constant S_ .f32 0x00000000#32) reducesTo_S4096x3_S4096_d1 h_S_)))) (mulf (broadcastInDim S16384x4096 ![] bcast_S_S16384x4096 (constant S_ .f32 0x40000000#32)) (Host.dotGeneral dot_S16384x3_S3x4096_S16384x4096_1_0_0_1_n_n none S (transpose S3x4096 [1, 0] Y transposes_S4096x3_S3x4096_1_0))))

theorem negDists_apply [Facts] (S : FVec Ideal S16384x3 .f32) (Y : FVec Ideal S4096x3 .f32) (R : Fin 16384) (j : Fin 4096) :
    negDists S Y (ix2 R j) = -dists S Y R j := by
  pointwise [negDists]
  rfl

/-- The weights, from the three picked values. -/
def weights [Facts] (v : FVec Ideal S16384x3 .f32) : FVec Ideal S16384x3 .f32 :=
  Host.divf (Host.divf (broadcastInDim S16384x3 ![] bcast_S_S16384x3 (constant S_ .f32 0x3F800000#32)) (addf (Host.sqrt (maximumf (Host.negf v) (broadcastInDim S16384x3 ![] bcast_S_S16384x3 (constant S_ .f32 0x00000000#32)))) (broadcastInDim S16384x3 ![] bcast_S_S16384x3 (constant S_ .f32 0x322BCC77#32)))) (broadcastInDim S16384x3 ![0, 1] bcast_S16384x1_S16384x3_0_1 (broadcastInDim S16384x1 ![0] bcast_S16384_S16384x1_0 (Host.reduceAdd (Host.divf (broadcastInDim S16384x3 ![] bcast_S_S16384x3 (constant S_ .f32 0x3F800000#32)) (addf (Host.sqrt (maximumf (Host.negf v) (broadcastInDim S16384x3 ![] bcast_S_S16384x3 (constant S_ .f32 0x00000000#32)))) (broadcastInDim S16384x3 ![] bcast_S_S16384x3 (constant S_ .f32 0x322BCC77#32)))) (constant S_ .f32 0x00000000#32) reducesTo_S16384x3_S16384_d1 h_S_)))

theorem weights_apply [Facts] (v : FVec Ideal S16384x3 .f32) (R : Fin 16384) (k : Fin 3) :
    weights v (ix2 R k) = Ideal.div (inv (-v (ix2 R k))) (∑ k, inv (-v (ix2 R k))) := by
  pointwise [weights]
  rfl

end Cert.Proof.Search

end
-- ==== Proof.Search.Match.lean ====
/-
  The search against its reference: with finite points, the kernel's words and weights are the reference's.
-/
module

public import proofs.«01_k».proof.Proof.Search.Reference
public import proofs.«01_k».proof.Proof.Gen.Pre_points_finite
public import Idealize.ShloMosaic.Lib.ReduceAll

@[expose] public section

set_option maxRecDepth 16384

noncomputable section

namespace Cert.Proof.Search

open Cert.SearchReferenceIdeal Idealize.ShloMosaic

/-! ## Finite points -/

theorem real_of_abs {v : EReal} (h : FloatOps.cmpf (F := Ideal) (φ := .f32) .olt (FloatOps.absf (F := Ideal) (φ := .f32) v) (Ideal.ofBits .f32 0x7F800000#32) = 1#1) :
    ∃ r : ℝ, v = (r : EReal) := by
  rw [ofBits_top] at h
  have h' : max v (-v) < ⊤ := by
    by_contra hn
    revert h
    show BitVec.ofBool (decide (max v (-v) < ⊤)) = 1#1 → False
    simp [hn]
  obtain ⟨h1, h2⟩ := max_lt_iff.mp h'
  induction v with
  | bot => simp at h2
  | top => simp at h1
  | coe r => exact ⟨r, rfl⟩

theorem real_of_pre (S : FVec Ideal S16384x3 .f32) (Y : FVec Ideal S4096x3 .f32)
    (h : Cert.Pre_points_finite.fn S Y = fun _ => 1#1) :
    (∀ i, ∃ r : ℝ, S i = (r : EReal)) ∧ ∀ i, ∃ r : ℝ, Y i = (r : EReal) := by
  have e := congrFun h (fun a => a.elim0)
  simp only [Cert.Pre_points_finite.fn, andi] at e
  obtain ⟨e0, e1⟩ := IntOp.andi_eq_one.1 e
  have : Subsingleton Cert.Pre_points_finite.S_.Idx := ⟨fun a b => funext fun i => i.elim0⟩
  exact ⟨fun i => real_of_abs (Host.reduce_andi_all _ _ _ _ _ e0 i), fun i => real_of_abs (Host.reduce_andi_all _ _ _ _ _ e1 i)⟩

theorem dists_ne_top (S : FVec Ideal S16384x3 .f32) (Y : FVec Ideal S4096x3 .f32)
    (hS : ∀ i, ∃ r : ℝ, S i = (r : EReal)) (hY : ∀ i, ∃ r : ℝ, Y i = (r : EReal)) (R : Fin 16384) (j : Fin 4096) :
    dists S Y R j ≠ ⊤ := by
  choose s hs using hS
  choose y hy using hY
  simp only [dists, dist2, hs, hy, ofBits_two, Fin.sum_univ_three]
  norm_cast
  exact EReal.coe_ne_top _

/-! ## The comparison -/

theorem before_neg (a b : EReal) : (FloatOps.cmpfTotal (F := Ideal) (φ := .f32) .gt (-a) (-b) == 1#1) = decide (a < b) := by
  show (BitVec.ofBool (decide (-b < -a)) == 1#1) = _
  by_cases h : a < b <;> simp [h, EReal.neg_lt_neg_iff]

theorem place_negDists [Facts] (S : FVec Ideal S16384x3 .f32) (Y : FVec Ideal S4096x3 .f32) (R : Fin 16384) (p₀ p₁ p₂ : Fin 4096)
    (h : Picks (dists S Y R) p₀ p₁ p₂) (k : Fin 3) : place (negDists S Y) R k = ![p₀, p₁, p₂] k := by
  unfold place
  simp only [negDists_apply, before_neg]
  exact h.sortedFrom_eq (by decide) k

theorem fptosi_col (p : Fin 4096) : Ideal.fptosi 32 (col p) = BitVec.ofNat 32 p := by
  have e : (((2 ^ (32 - 1) : ℕ) : ℤ) - 1) = 2147483647 := by norm_num
  have e' : (-((2 ^ (32 - 1) : ℕ) : ℤ)) = -2147483648 := by norm_num
  have hp := p.isLt
  unfold Ideal.fptosi col
  rw [Ideal.toIntClamped_coe, if_pos (Nat.cast_nonneg _), Int.floor_natCast, e, e',
    min_eq_right (by omega), max_eq_right (by omega), BitVec.ofInt_natCast]

theorem indices_eq [Facts] (S : FVec Ideal S16384x3 .f32) (Y : FVec Ideal S4096x3 .f32)
    (hS : ∀ i, ∃ r : ℝ, S i = (r : EReal)) (hY : ∀ i, ∃ r : ℝ, Y i = (r : EReal)) (h) :
    (Host.topK S16384x3 1 (FloatOps.cmpfTotal (F := Ideal) .gt) (negDists S Y) h).2
      = fun i : S16384x3.Idx => words (dists S Y (i 0)) (i 1) := by
  funext i
  idx_vars i
  rw [topK_snd]
  show _ = words (dists S Y i0) i1
  obtain ⟨p₀, p₁, p₂, hp, -, h0, -, h1, -, h2⟩ := exists_picks (by decide) past col_le_past (dists S Y i0) (dists_ne_top S Y hS hY i0)
  rw [place_negDists S Y i0 p₀ p₁ p₂ hp]
  simp only [words, left₂, left₁]
  rw [h2, h1, h0]
  simp only [fptosi_col]
  fin_cases i1 <;> rfl

theorem weights_eq [Facts] (S : FVec Ideal S16384x3 .f32) (Y : FVec Ideal S4096x3 .f32)
    (hS : ∀ i, ∃ r : ℝ, S i = (r : EReal)) (hY : ∀ i, ∃ r : ℝ, Y i = (r : EReal)) (h) :
    weights (Host.topK S16384x3 1 (FloatOps.cmpfTotal (F := Ideal) .gt) (negDists S Y) h).1
      = fun i : S16384x3.Idx => Ideal.div (invs (dists S Y (i 0)) (i 1)) (∑ k, invs (dists S Y (i 0)) k) := by
  funext i
  idx_vars i
  rw [weights_apply]
  show _ = Ideal.div (invs (dists S Y i0) i1) (∑ k, invs (dists S Y i0) k)
  obtain ⟨p₀, p₁, p₂, hp, g0, h0, g1, h1, g2, h2⟩ := exists_picks (by decide) past col_le_past (dists S Y i0) (dists_ne_top S Y hS hY i0)
  have e : ∀ k, inv (-(Host.topK S16384x3 1 (FloatOps.cmpfTotal (F := Ideal) .gt) (negDists S Y) h).1 (ix2 i0 k)) = invs (dists S Y i0) k := by
    intro k
    rw [topK_fst, place_negDists S Y i0 p₀ p₁ p₂ hp, negDists_apply, neg_neg]
    simp only [invs, left₂, left₁]
    rw [g2, g1, g0]
    fin_cases k <;> rfl
  simp only [e]

end Cert.Proof.Search

end
-- ==== Proof.Layers.Norm.lean ====
/-
  One output of a layer: a row, normed to mean 0 and variance 1, scaled and shifted, against one column of weights, plus
  that column's bias.
-/
module

public import Idealize.ShloMosaic.Lib.Pointwise

@[expose] public section

noncomputable section

namespace Cert.Proof.Layers

open Idealize.ShloMosaic

variable {K : ℕ}

/-- The mean of a row whose length is `n`. -/
def mean (n : EReal) (x : Fin K → EReal) : EReal := Ideal.div (∑ k, x k) n

/-- The mean of the squared distances from the mean. -/
def variance (n : EReal) (x : Fin K → EReal) : EReal := Ideal.div (∑ k, (x k - mean n x) * (x k - mean n x)) n

/-- The row, normed, scaled by `g` and shifted by `b`. -/
def normed (n : EReal) (x g b : Fin K → EReal) (k : Fin K) : EReal :=
  Ideal.div (x k - mean n x) (Ideal.sqrt (variance n x + Ideal.ofBits .f32 0x3727C5AC#32)) * g k + b k

/-- One output of the layer. -/
def layer (n : EReal) (x g b w : Fin K → EReal) (d : EReal) : EReal := ∑ k, normed n x g b k * w k + d

/-! ## The reference's divisor, a length less a correction of zero -/

theorem sub_sitofp_zero (n : EReal) : n - FloatOps.sitofp (F := Ideal) .f32 0#32 = n := by
  have e : FloatOps.sitofp (F := Ideal) .f32 0#32 = (0 : EReal) := by
    show (((0#32 : BitVec 32).toInt : ℝ) : EReal) = 0
    simp
  rw [e, sub_zero]

theorem ofBits_512_pos : 0 < Ideal.ofBits .f32 0x44000000#32 := by
  simp [Ideal.ofBits, Ideal.ieee]
  rw [← EReal.coe_mul]
  exact EReal.coe_pos.mpr (by norm_num)

theorem ofBits_256_pos : 0 < Ideal.ofBits .f32 0x43800000#32 := by
  simp [Ideal.ofBits, Ideal.ieee]
  rw [← EReal.coe_mul]
  exact EReal.coe_pos.mpr (by norm_num)

end Cert.Proof.Layers

end
-- ==== Proof.Layers.Coarse.lean ====
/-
  The coarse call: the layer-normed features times the weights plus the bias, the two halves of a row one under the other.
-/
module

public import proofs.«01_k».proof.Proof.Gen.CoarseIdeal.Value
public import proofs.«01_k».proof.Proof.Gen.CoarseReferenceIdeal.Run
public import proofs.«01_k».proof.Proof.Layers.Norm
public import Idealize.ShloMosaic.Lib.Pointwise

@[expose] public section

set_option maxRecDepth 16384

noncomputable section

namespace Cert.Proof.Layers

open Idealize.ShloMosaic

namespace Coarse

open Cert.CoarseIdeal Cert.CoarseIdeal.Gen

variable (X : Vec Ideal S4096x512 .f32) (G B : Vec Ideal S512 .f32) (W : Vec Ideal S512x256 .f32) (D : Vec Ideal S256 .f32)

/-- Row `R`, column `j` of the features' layer. -/
def at_ (R : Fin 4096) (j : Fin 256) : EReal :=
  layer (Ideal.ofBits .f32 0x44000000#32) (fun k => X (ix2 R k)) (fun k => G (ix1 k)) (fun k => B (ix1 k)) (fun k => W (ix2 k j)) (D (ix1 j))

theorem pay_apply (r : Fin 8192) (l : Fin 128) :
    k0_pay1 (F := Ideal) X G B W D (ix2 r l) = at_ X G B W D ⟨r / 2, by omega⟩ ⟨r % 2 * 128 + l, by omega⟩ := by
  pointwise [k0_pay1]
  rcases Nat.mod_two_eq_zero_or_one r with h | h
  · rw [if_pos h]
    have e : (⟨r % 2 * 128 + l, by omega⟩ : Fin 256) = ⟨l, by omega⟩ := Fin.ext (by simp [h])
    rw [e]
    rfl
  · rw [if_neg (by omega)]
    have e : (⟨r % 2 * 128 + l, by omega⟩ : Fin 256) = ⟨128 + l, by omega⟩ := Fin.ext (by simp [h])
    rw [e]
    rfl

end Coarse

namespace CoarseReference

open Cert.CoarseReferenceIdeal Cert.CoarseReferenceIdeal.Facts₀ Cert.CoarseReferenceIdeal.Facts

/-- The reference's result. -/
def term [Facts] (X : FVec Ideal S4096x512 .f32) (G B : FVec Ideal S512 .f32) (W : FVec Ideal S512x256 .f32) (D : FVec Ideal S256 .f32) : FVec Ideal S8192x128 .bf16 :=
  shapeCast S8192x128 (truncf .bf16 (addf (Host.dotGeneral dot_S4096x512_S512x256_S4096x256_1_0_0_1_n_n none (addf (mulf (Host.divf (subf X (broadcastInDim S4096x512 ![0, 1] bcast_S4096x1_S4096x512_0_1 (Host.divf (broadcastInDim S4096x1 ![0] bcast_S4096_S4096x1_0 (Host.reduceAdd X (constant S_ .f32 0x00000000#32) reducesTo_S4096x512_S4096_d1 h_S_)) (broadcastInDim S4096x1 ![] bcast_S_S4096x1 (constant S_ .f32 0x44000000#32))))) (broadcastInDim S4096x512 ![0, 1] bcast_S4096x1_S4096x512_0_1 (Host.sqrt (addf (select (broadcastInDim S4096x1 ![] bcast_S_S4096x1 (cmpf .ogt (subf (constant S_ .f32 0x44000000#32) (sitofp .f32 (constantI S_ 32 0#32)) : FVec Ideal S_ .f32) (constant S_ .f32 0x00000000#32))) (Host.divf (broadcastInDim S4096x1 ![0] bcast_S4096_S4096x1_0 (Host.reduceAdd (mulf (subf X (broadcastInDim S4096x512 ![0, 1] bcast_S4096x1_S4096x512_0_1 (Host.divf (broadcastInDim S4096x1 ![0] bcast_S4096_S4096x1_0 (Host.reduceAdd X (constant S_ .f32 0x00000000#32) reducesTo_S4096x512_S4096_d1 h_S_)) (broadcastInDim S4096x1 ![] bcast_S_S4096x1 (constant S_ .f32 0x44000000#32))))) (subf X (broadcastInDim S4096x512 ![0, 1] bcast_S4096x1_S4096x512_0_1 (Host.divf (broadcastInDim S4096x1 ![0] bcast_S4096_S4096x1_0 (Host.reduceAdd X (constant S_ .f32 0x00000000#32) reducesTo_S4096x512_S4096_d1 h_S_)) (broadcastInDim S4096x1 ![] bcast_S_S4096x1 (constant S_ .f32 0x44000000#32)))))) (constant S_ .f32 0x00000000#32) reducesTo_S4096x512_S4096_d1 h_S_)) (broadcastInDim S4096x1 ![] bcast_S_S4096x1 (subf (constant S_ .f32 0x44000000#32) (sitofp .f32 (constantI S_ 32 0#32))))) (broadcastInDim S4096x1 ![] bcast_S_S4096x1 (id (constant S_ .f32 0x7FC00000#32)))) (broadcastInDim S4096x1 ![] bcast_S_S4096x1 (constant S_ .f32 0x3727C5AC#32)))))) (broadcastInDim S4096x512 ![0, 1] bcast_S1x512_S4096x512_0_1 (broadcastInDim S1x512 ![1] bcast_S512_S1x512_1 G))) (broadcastInDim S4096x512 ![0, 1] bcast_S1x512_S4096x512_0_1 (broadcastInDim S1x512 ![1] bcast_S512_S1x512_1 B))) W) (broadcastInDim S4096x256 ![0, 1] bcast_S1x256_S4096x256_0_1 (broadcastInDim S1x256 ![1] bcast_S256_S1x256_1 D))) bitsLt_bf16_f32) shapeCasts_S4096x256_S8192x128

theorem term_apply [Facts] (X : FVec Ideal S4096x512 .f32) (G B : FVec Ideal S512 .f32) (W : FVec Ideal S512x256 .f32) (D : FVec Ideal S256 .f32)
    (r : Fin 8192) (l : Fin 128) :
    term X G B W D (ix2 r l) = Coarse.at_ X G B W D ⟨r / 2, by omega⟩ ⟨r % 2 * 128 + l, by omega⟩ := by
  pointwise [term]
  simp only [sub_sitofp_zero, ofBits_512_pos, if_true]
  rfl

end CoarseReference

namespace Coarse

open Cert.CoarseIdeal Cert.CoarseIdeal.Gen

theorem pay_eq [Cert.CoarseReferenceIdeal.Facts] (X : FVec Ideal S4096x512 .f32) (G B : FVec Ideal S512 .f32) (W : FVec Ideal S512x256 .f32) (D : FVec Ideal S256 .f32) :
    CoarseReference.term X G B W D = k0_pay1 (F := Ideal) X G B W D := by
  funext i
  idx_vars i
  exact (CoarseReference.term_apply X G B W D i0 i1).trans (pay_apply X G B W D i0 i1).symm

end Coarse

end Cert.Proof.Layers

end
-- ==== Proof.Layers.Fine.lean ====
/-
  The fine call: the layer-normed features times the weights plus the bias, plus the weighted sum of the three gathered rows.
-/
module

public import proofs.«01_k».proof.Proof.Gen.FineIdeal.Value
public import proofs.«01_k».proof.Proof.Gen.FineReferenceIdeal.Run
public import proofs.«01_k».proof.Proof.Layers.Norm
public import Idealize.ShloMosaic.Lib.Pipeline.ValueKit
public import Idealize.ShloMosaic.Lib.Pointwise

@[expose] public section

set_option maxRecDepth 16384

noncomputable section

namespace Cert.Proof.Layers

open Idealize.ShloMosaic

namespace FineReference

open Cert.FineReferenceIdeal Cert.FineReferenceIdeal.Facts₀ Cert.FineReferenceIdeal.Facts

/-- Column `j` of row `R` of the k-th neighbour: the gathered rows come in two halves of 128, one under the other. -/
def gathered (Q : FVec Ideal S98304x128 .bf16) (k : Fin 3) (R : Fin 16384) (j : Fin 256) : EReal :=
  Q (ix2 ⟨k * 32768 + R * 2 + j / 128, by omega⟩ ⟨j % 128, by omega⟩)

/-- Row `R`, column `j` of the result. -/
def at_ (X : FVec Ideal S16384x256 .f32) (G B : FVec Ideal S256 .f32) (W : FVec Ideal S256x256 .f32) (D : FVec Ideal S256 .f32)
    (V : FVec Ideal S16384x3 .f32) (Q : FVec Ideal S98304x128 .bf16) (R : Fin 16384) (j : Fin 256) : EReal :=
  layer (Ideal.ofBits .f32 0x43800000#32) (fun k => X (ix2 R k)) (fun k => G (ix1 k)) (fun k => B (ix1 k)) (fun k => W (ix2 k j)) (D (ix1 j))
    + ∑ k, V (ix2 R k) * gathered Q k R j

/-- The reference's result. -/
def term [Facts] (X : FVec Ideal S16384x256 .f32) (G B : FVec Ideal S256 .f32) (W : FVec Ideal S256x256 .f32) (D : FVec Ideal S256 .f32)
    (V : FVec Ideal S16384x3 .f32) (Q : FVec Ideal S98304x128 .bf16) : FVec Ideal S16384x256 .f32 :=
  addf (addf (Host.dotGeneral dot_S16384x256_S256x256_S16384x256_1_0_0_1_n_n none (addf (mulf (Host.divf (subf X (broadcastInDim S16384x256 ![0, 1] bcast_S16384x1_S16384x256_0_1 (Host.divf (broadcastInDim S16384x1 ![0] bcast_S16384_S16384x1_0 (Host.reduceAdd X (constant S_ .f32 0x00000000#32) reducesTo_S16384x256_S16384_d1 h_S_)) (broadcastInDim S16384x1 ![] bcast_S_S16384x1 (constant S_ .f32 0x43800000#32))))) (broadcastInDim S16384x256 ![0, 1] bcast_S16384x1_S16384x256_0_1 (Host.sqrt (addf (select (broadcastInDim S16384x1 ![] bcast_S_S16384x1 (cmpf .ogt (subf (constant S_ .f32 0x43800000#32) (sitofp .f32 (constantI S_ 32 0#32)) : FVec Ideal S_ .f32) (constant S_ .f32 0x00000000#32))) (Host.divf (broadcastInDim S16384x1 ![0] bcast_S16384_S16384x1_0 (Host.reduceAdd (mulf (subf X (broadcastInDim S16384x256 ![0, 1] bcast_S16384x1_S16384x256_0_1 (Host.divf (broadcastInDim S16384x1 ![0] bcast_S16384_S16384x1_0 (Host.reduceAdd X (constant S_ .f32 0x00000000#32) reducesTo_S16384x256_S16384_d1 h_S_)) (broadcastInDim S16384x1 ![] bcast_S_S16384x1 (constant S_ .f32 0x43800000#32))))) (subf X (broadcastInDim S16384x256 ![0, 1] bcast_S16384x1_S16384x256_0_1 (Host.divf (broadcastInDim S16384x1 ![0] bcast_S16384_S16384x1_0 (Host.reduceAdd X (constant S_ .f32 0x00000000#32) reducesTo_S16384x256_S16384_d1 h_S_)) (broadcastInDim S16384x1 ![] bcast_S_S16384x1 (constant S_ .f32 0x43800000#32)))))) (constant S_ .f32 0x00000000#32) reducesTo_S16384x256_S16384_d1 h_S_)) (broadcastInDim S16384x1 ![] bcast_S_S16384x1 (subf (constant S_ .f32 0x43800000#32) (sitofp .f32 (constantI S_ 32 0#32))))) (broadcastInDim S16384x1 ![] bcast_S_S16384x1 (id (constant S_ .f32 0x7FC00000#32)))) (broadcastInDim S16384x1 ![] bcast_S_S16384x1 (constant S_ .f32 0x3727C5AC#32)))))) (broadcastInDim S16384x256 ![0, 1] bcast_S1x256_S16384x256_0_1 (broadcastInDim S1x256 ![1] bcast_S256_S1x256_1 G))) (broadcastInDim S16384x256 ![0, 1] bcast_S1x256_S16384x256_0_1 (broadcastInDim S1x256 ![1] bcast_S256_S1x256_1 B))) W) (broadcastInDim S16384x256 ![0, 1] bcast_S1x256_S16384x256_0_1 (broadcastInDim S1x256 ![1] bcast_S256_S1x256_1 D))) (Host.reduceAdd (mulf (shapeCast S3x16384x256 (extf .f32 Q bitsLt_bf16_f32) shapeCasts_S98304x128_S3x16384x256) (broadcastInDim S3x16384x256 ![0, 1, 2] bcast_S3x16384x1_S3x16384x256_0_1_2 (broadcastInDim S3x16384x1 ![0, 1] bcast_S3x16384_S3x16384x1_0_1 (transpose S3x16384 [1, 0] V transposes_S16384x3_S3x16384_1_0)))) (constant S_ .f32 0x00000000#32) reducesTo_S3x16384x256_S16384x256_d0 h_S_)

theorem term_apply [Facts] (X : FVec Ideal S16384x256 .f32) (G B : FVec Ideal S256 .f32) (W : FVec Ideal S256x256 .f32) (D : FVec Ideal S256 .f32)
    (V : FVec Ideal S16384x3 .f32) (Q : FVec Ideal S98304x128 .bf16)
    (R : Fin 16384) (j : Fin 256) : term X G B W D V Q (ix2 R j) = at_ X G B W D V Q R j := by
  pointwise [term]
  rw [sub_sitofp_zero, if_pos ofBits_256_pos]
  simp only [at_, layer, normed, variance, mean, gathered, mul_comm (V _)]

end FineReference

namespace Fine

open Cert.FineIdeal Cert.FineIdeal.Gen Cert.FineIdeal.Value Idealize.ShloMosaic.TcCoe

section
variable (X : Vec Ideal S2048x256 .f32) (G B : Vec Ideal S256 .f32) (W : Vec Ideal S256x256 .f32) (D : Vec Ideal S256 .f32)
  (V : Vec Ideal S2048x3 .f32) (P₀ P₁ P₂ : Vec Ideal S4096x128 .bf16)

/-- A block's words, two bf16 rows for one row. -/
def pair (P : Vec Ideal S4096x128 .bf16) (r : Fin 2048) (j : Fin 256) : EReal :=
  P (ix2 ⟨r * 2 + j / 128, by omega⟩ ⟨j % 128, by omega⟩)

theorem hz : (![0, 0] : Fin 2 → ℕ) = fun _ => 0 := by decide

theorem out_apply (r : Fin 2048) (j : Fin 256) :
    out0_9 (F := Ideal) X G B W D V P₀ P₁ P₂ (ix2 r j)
      = layer (Ideal.ofBits .f32 0x43800000#32) (fun k => X (ix2 r k)) (fun k => G (ix1 k)) (fun k => B (ix1 k)) (fun k => W (ix2 k j)) (D (ix1 j))
        + (V (ix2 r 0) * pair P₀ r j + V (ix2 r 1) * pair P₁ r j + V (ix2 r 2) * pair P₂ r j) := by
  unfold out0_9
  rw [View.canon_unit_zero (S := S2048x256) hz]
  pointwise [k0_pay1, k0_pay2, k0_pay3, k0_pay4]
  refine congrArg₂ (· + ·) rfl ?_
  by_cases h : (j : ℕ) < 128
  · have e : ∀ P, pair P r j = P (ix2 ⟨2 * r, by omega⟩ ⟨j, h⟩) := fun P =>
      congrArg P (congrArg₂ ix2 (Fin.ext (by simp only; omega)) (Fin.ext (by simp only; omega)))
    rw [dif_pos h, e, e, e]
  · have e : ∀ P, pair P r j = P (ix2 ⟨2 * r + 1, by omega⟩ ⟨j - 128, by omega⟩) := fun P =>
      congrArg P (congrArg₂ ix2 (Fin.ext (by simp only; omega)) (Fin.ext (by simp only; omega)))
    rw [dif_neg h, e, e, e]

end

variable (m : (ℓ : Loc nD τ sig) → Buf (Elt Ideal) ℓ) (c : Dev nD)

theorem idx : ∀ t : Fin grid0.N, win0_0.index t = ![(t : ℕ), 0] ∧ win0_1.index t = ![0] ∧ win0_2.index t = ![0] ∧ win0_3.index t = ![0, 0]
    ∧ win0_4.index t = ![0] ∧ win0_5.index t = ![(t : ℕ), 0] ∧ win0_6.index t = ![(t : ℕ), 0] ∧ win0_7.index t = ![8 + (t : ℕ), 0]
    ∧ win0_8.index t = ![16 + (t : ℕ), 0] ∧ win0_9.index t = ![(t : ℕ), 0] := by decide +kernel

theorem feats (t : Fin cfg0.N) (r : Fin 2048) (k : Fin 256) (R : Fin 16384) (hR : (R : ℕ) = t * 2048 + r) :
    iblk m c 0 t (ix2 r k) = m ((c : Thread nD τ).loc main_arg2) (ix2 R k) := by
  blk_simp [iblk, idx t]
  rw [V_main_arg2]
  blk_ext [iblk, idx t]

theorem scale (t : Fin cfg0.N) (k : Fin 256) : iblk m c 1 t (ix1 k) = m ((c : Thread nD τ).loc main_arg3) (ix1 k) := by
  blk_simp [iblk, idx t]
  rw [V_main_arg3]
  blk_ext [iblk, idx t]

theorem shift (t : Fin cfg0.N) (k : Fin 256) : iblk m c 2 t (ix1 k) = m ((c : Thread nD τ).loc main_arg4) (ix1 k) := by
  blk_simp [iblk, idx t]
  rw [V_main_arg4]
  blk_ext [iblk, idx t]

theorem matrix (t : Fin cfg0.N) (k j : Fin 256) : iblk m c 3 t (ix2 k j) = m ((c : Thread nD τ).loc main_arg5) (ix2 k j) := by
  blk_simp [iblk, idx t]
  rw [V_main_arg5]
  blk_ext [iblk, idx t]

theorem bias (t : Fin cfg0.N) (k : Fin 256) : iblk m c 4 t (ix1 k) = m ((c : Thread nD τ).loc main_arg6) (ix1 k) := by
  blk_simp [iblk, idx t]
  rw [V_main_arg6]
  blk_ext [iblk, idx t]

theorem coeff (t : Fin cfg0.N) (r : Fin 2048) (k : Fin 3) (R : Fin 16384) (hR : (R : ℕ) = t * 2048 + r) :
    iblk m c 5 t (ix2 r k) = m ((c : Thread nD τ).loc main_arg7) (ix2 R k) := by
  blk_simp [iblk, idx t]
  rw [V_main_arg7]
  blk_ext [iblk, idx t]

theorem near₀ (t : Fin cfg0.N) (r : Fin 2048) (j : Fin 256) (R : Fin 16384) (hR : (R : ℕ) = t * 2048 + r) :
    pair (iblk m c 6 t) r j = FineReference.gathered (m ((c : Thread nD τ).loc main_arg8)) 0 R j := by
  unfold pair FineReference.gathered
  blk_simp [iblk, idx t]
  rw [V_main_arg8]
  blk_ext [iblk, idx t]

theorem near₁ (t : Fin cfg0.N) (r : Fin 2048) (j : Fin 256) (R : Fin 16384) (hR : (R : ℕ) = t * 2048 + r) :
    pair (iblk m c 7 t) r j = FineReference.gathered (m ((c : Thread nD τ).loc main_arg8)) 1 R j := by
  unfold pair FineReference.gathered
  blk_simp [iblk, idx t]
  rw [V_main_arg8]
  blk_ext [iblk, idx t]

theorem near₂ (t : Fin cfg0.N) (r : Fin 2048) (j : Fin 256) (R : Fin 16384) (hR : (R : ℕ) = t * 2048 + r) :
    pair (iblk m c 8 t) r j = FineReference.gathered (m ((c : Thread nD τ).loc main_arg8)) 2 R j := by
  unfold pair FineReference.gathered
  blk_simp [iblk, idx t]
  rw [V_main_arg8]
  blk_ext [iblk, idx t]

/-- The result array after the run. -/
theorem arr9 : (dats m 0 c).arrAt 9 (cfgs 0).N = fun i : S16384x256.Idx =>
    FineReference.at_ (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (i 0) (i 1) := by
  refine (dats m 0 c).arrAt_eq_of_covers 9 _ (by decide +kernel) fun t hf y => ?_
  blk_simp
  rw [after0_9]
  idx_vars y
  have e0 : (((View.whole main_v0).slice (win0_9.rect t)).emb (ix2 y0 y1) 0 : ℕ) = t * 2048 + y0 := by
    blk_simp [idx t]
  have e1 : ((View.whole main_v0).slice (win0_9.rect t)).emb (ix2 y0 y1) 1 = y1 := Fin.ext (by blk_simp [idx t])
  rw [out_apply, e1, near₀ m c t y0 y1 _ e0, near₁ m c t y0 y1 _ e0, near₂ m c t y0 y1 _ e0]
  simp only [FineReference.at_, Fin.sum_univ_three, feats m c t y0 _ _ e0, scale m c t, shift m c t, matrix m c t, bias m c t, coeff m c t y0 _ _ e0]

theorem arr_eq [Cert.FineReferenceIdeal.Facts] :
    FineReference.term (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = (dats m 0 c).arrAt 9 (cfgs 0).N := by
  rw [arr9]
  funext i
  idx_vars i
  exact FineReference.term_apply _ _ _ _ _ _ _ i0 i1

end Fine

end Cert.Proof.Layers

end
-- ==== Proof.Words.lean ====
/-
  The pipeline's counters in closed form. The kernel's loop carries five words: the number of index blocks asked for,
  the numbers of index blocks and of row blocks consumed, the number of row blocks known to be out, and the step. Before
  step `k` they are the words of `carried k`; every offset, every guard and every bounds check of the step is then read
  off `k` and the tile's first row. Each fact is a finite check over the tiles and the steps.
-/
module

public import proofs.«01_k».proof.Proof.Gen.KernelIdeal
public import proofs.«01_k».proof.Proof.Gen.KernelIdeal.Skeleton

@[expose] public section

set_option Elab.async false

noncomputable section

namespace Cert.Proof.Rows

open Cert.KernelIdeal Cert.KernelIdeal.Gen
open Idealize.ShloMosaic

/-- The five words carried into step `k`. -/
abbrev carried (k : ℕ) : BitVec 32 × BitVec 32 × BitVec 32 × BitVec 32 × BitVec 32 :=
  (BitVec.ofNat 32 (min (k + 1) 4), BitVec.ofNat 32 k, BitVec.ofNat 32 k, BitVec.ofNat 32 (k - 1), BitVec.ofNat 32 (k % 4))

/-- The first row of tile `L`. -/
abbrev firstRow (L : grid0.Coords) : ℕ := 1536 * (L 1).val + 24576 * (L 0).val

theorem trips_eq : k0_t1_loop.trips = 4 := by decide +kernel

/-! ## Offsets -/

theorem off4_eq : ∀ k : Fin 4, k.val < 3 → k0_off4 (carried k).1 = ![(k.val + 1) % 2, 0, 0] := by decide +kernel
theorem off5_eq : ∀ (L : grid0.Coords) (k : Fin 4), k.val < 3 → k0_off5 L (carried k).2.2.2.2 = ![0, firstRow L + 384 * (k.val + 1)] := by decide +kernel
theorem off6_eq : ∀ k : Fin 4, k.val < 3 → k0_off6 (carried k).1 = ![(k.val + 1) % 2] := by decide +kernel
theorem off7_eq : ∀ k : Fin 4, k0_off7 (carried k).2.1 = ![k.val % 2, 0, 0] := by decide +kernel
theorem off8_eq : ∀ (L : grid0.Coords) (k : Fin 4), k0_off8 L (carried k).2.2.2.2 = ![0, firstRow L + 384 * k.val] := by decide +kernel
theorem off9_eq : ∀ k : Fin 4, k0_off9 (carried k).2.1 = ![k.val % 2] := by decide +kernel
theorem off10_eq : ∀ k : Fin 4, k0_off10 (carried k).2.2.1 = ![k.val % 2, 0, 0] := by decide +kernel
theorem off11_eq : ∀ k : Fin 4, k0_off11 (carried k).2.1 = ![k.val % 2, 0, 0] := by decide +kernel
theorem off12_eq : ∀ k : Fin 4, k0_off12 (carried k).2.2.1 = ![k.val % 2, 0, 0] := by decide +kernel
theorem off13_eq : ∀ (L : grid0.Coords) (k : Fin 4), k0_off13 L (carried k).2.2.2.2 = ![firstRow L + 384 * k.val, 0] := by decide +kernel
theorem off14_eq : ∀ k : Fin 4, k0_off14 (carried k).2.2.1 = ![k.val % 2] := by decide +kernel
theorem off15_eq : ∀ k : Fin 4, 1 ≤ k.val → k0_off15 (carried k).2.2.2.1 = ![(k.val + 1) % 2, 0, 0] := by decide +kernel
theorem off16_eq : ∀ (L : grid0.Coords) (k : Fin 4), 1 ≤ k.val → k0_off16 L (carried k).2.2.2.2 = ![firstRow L + 384 * (k.val - 1), 0] := by decide +kernel
theorem off17_eq : ∀ k : Fin 4, 1 ≤ k.val → k0_off17 (carried k).2.2.2.1 = ![(k.val + 1) % 2] := by decide +kernel
theorem off19_eq : ∀ L : grid0.Coords, k0_off19 L (carried 4).2.2.2.2 = ![firstRow L + 384 * 3, 0] := by decide +kernel
theorem off20_eq : k0_off20 (carried 4).2.2.2.1 = ![3 % 2] := by decide +kernel
theorem off21_eq : k0_off21 (carried 4).2.2.2.1 = ![3 % 2, 0, 0] := by decide +kernel

/-! ## Guards -/

/-- Step `k` of the loop. -/
abbrev stepOf (k : Fin 4) : Fin k0_t1_loop.trips := k.cast trips_eq.symm

theorem cond1_iff : ∀ (L : grid0.Coords) (k : Fin 4), k0_cond1 L (stepOf k) (carried k).2.2.2.2 = 1#1 ↔ k.val < 3 := by decide +kernel
theorem cond2_true : ∀ (L : grid0.Coords) (k : Fin 4), k0_cond2 L (stepOf k) (carried k).2.2.2.2 = 1#1 := by decide +kernel
theorem cond5_true : ∀ (L : grid0.Coords) (k : Fin 4), k0_cond5 L (stepOf k) (carried k).2.2.2.2 = 1#1 := by decide +kernel
theorem cond7_iff : ∀ (L : grid0.Coords) (k : Fin 4), k0_cond7 L (stepOf k) (carried k).2.2.2.2 = 1#1 ↔ 1 ≤ k.val := by decide +kernel

/-! ## Bounds checks -/

theorem chk2_true : ∀ k : Fin 4, k0_chk2 (carried k).2.2.1 := by decide +kernel
theorem chk3_true : ∀ k : Fin 4, k0_chk3 (carried k).2.1 := by decide +kernel
theorem chk1_true : ∀ (L : grid0.Coords) (k : Fin 4),
    k0_chk1 L (stepOf k) (carried k).1 (carried k).2.1 (carried k).2.2.1 (carried k).2.2.2.1 (carried k).2.2.2.2 := by decide +kernel
theorem chk4_true : k0_chk4 (carried 4).2.2.2.1 := by decide +kernel
theorem chk5_true : ∀ L : grid0.Coords, k0_chk5 L (carried 4).2.2.2.2 := by decide +kernel

/-! ## The next step's words -/

/-- The tile's number, times its four blocks, as the kernel computes it. -/
abbrev tileWord (L : grid0.Coords) : BitVec 32 :=
  Scalar.muli (Scalar.addi (Scalar.addi 0#32 (Scalar.muli (BitVec.ofNat 32 (L 1).val) 1#32)) (Scalar.muli (BitVec.ofNat 32 (L 0).val) 16#32)) 4#32

/-- What a step hands on: a count goes up when the next, or the previous, block is another one. -/
abbrev nextWords (v4 : BitVec 32) (t : Fin k0_t1_loop.trips) (a : BitVec 32 × BitVec 32 × BitVec 32 × BitVec 32 × BitVec 32) :
    BitVec 32 × BitVec 32 × BitVec 32 × BitVec 32 × BitVec 32 :=
  let step : BitVec 32 := Scf.iv 0#32 1#32 t
  let here : BitVec 32 := Scalar.addi a.2.2.2.2 v4
  let before : BitVec 32 := Scalar.select 1#1 (Scalar.subi a.2.2.2.2 1#32) a.2.2.2.2
  let prev : BitVec 32 := Scalar.addi (Scalar.select (Scalar.cmpi .eq before 4294967295#32) 3#32 before) v4
  let after : BitVec 32 := Scalar.select 1#1 (Scalar.addi a.2.2.2.2 1#32) a.2.2.2.2
  let wrapped : BitVec 32 := Scalar.select (Scalar.cmpi .eq after 4#32) 0#32 after
  let next : BitVec 32 := Scalar.addi wrapped v4
  let used : BitVec 1 := Scalar.ori (Scalar.cmpi .ne here next) (Scalar.cmpi .eq step 3#32)
  (Scalar.select (Scalar.andi (Scalar.andi (Scalar.cmpi .ne here next) (Scalar.xori (Scalar.cmpi .sge step 3#32) 1#1)) 1#1) (Scalar.addi a.1 1#32) a.1,
    Scalar.select used (Scalar.addi a.2.1 1#32) a.2.1,
    Scalar.select (Scalar.andi used 1#1) (Scalar.addi a.2.2.1 1#32) a.2.2.1,
    Scalar.select (Scalar.andi (Scalar.andi (Scalar.cmpi .ne here prev) (Scalar.xori (Scalar.cmpi .eq step 0#32) 1#1)) 1#1) (Scalar.addi a.2.2.2.1 1#32) a.2.2.2.1,
    wrapped)

theorem next_eq : ∀ (L : grid0.Coords) (k : Fin 4), nextWords (tileWord L) (stepOf k) (carried k) = carried (k.val + 1) := by decide +kernel

end Cert.Proof.Rows

end
-- ==== Proof.Setup.lean ====
/-
  The launch as the SparseCore theorems see it, and the pieces the tiles work on. The flat index array and the output
  are 128 blocks of 384 rows; tile `L` owns blocks `blockOf L 0 … blockOf L 3` of both. The table is read by all 32
  tiles at once, each at a thirty-second of the full share. Each tile's two scratch buffers are two slots each.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_arg0
abbrev jLoc (d : Dev nD) : Loc nD τ sig := (SparseCore.T d).loc main_arg1
abbrev uLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

abbrev tabV : Memref sig .scVector .hbm S4096x128 .f32 := Memref.whole main_arg0_scv
abbrev idxV : Memref sig .scVector .hbm S1x49152 .i32 := Memref.whole main_v1_scv
abbrev outV : Memref sig .scVector .hbm S49152x128 .f32 := Memref.whole main_v2_scv
abbrev islotsV : Memref sig .scVector .vmem S2x1x384 .i32 := Memref.whole cc0_scoped0
abbrev rslotsV : Memref sig .scVector .vmem S2x384x128 .f32 := Memref.whole cc0_scoped2

/-! ## Tiles and blocks -/

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

theorem coord0_lt (L : grid0.Coords) : (L 0).val < 2 := (L 0).isLt
theorem coord1_lt (L : grid0.Coords) : (L 1).val < 16 := (L 1).isLt

/-- Block `b` of tile `L`, among the 128. -/
def blockOf (L : grid0.Coords) (b : Fin 4) : Fin 128 :=
  ⟨64 * (L 0).val + 4 * (L 1).val + b.val, by have := coord0_lt L; have := coord1_lt L; omega⟩

theorem firstRow_block (L : grid0.Coords) (b : Fin 4) : firstRow L + 384 * b.val = 384 * (blockOf L b).val := by
  show 1536 * (L 1).val + 24576 * (L 0).val + 384 * b.val = 384 * (64 * (L 0).val + 4 * (L 1).val + b.val)
  omega

theorem idxWin_inb (L : grid0.Coords) (b : Fin 4) : ∀ a, (![0, firstRow L + 384 * b.val] : Fin 2 → ℕ) a + S1x384.size a ≤ S1x49152.size a := by
  intro a
  match a with
  | 0 => show 0 + 1 ≤ 1; omega
  | 1 =>
    show firstRow L + 384 * b.val + 384 ≤ 49152
    rw [firstRow_block]; omega
theorem outWin_inb (L : grid0.Coords) (b : Fin 4) : ∀ a, (![firstRow L + 384 * b.val, 0] : Fin 2 → ℕ) a + S384x128.size a ≤ S49152x128.size a := by
  intro a
  match a with
  | 0 =>
    show firstRow L + 384 * b.val + 384 ≤ 49152
    rw [firstRow_block]; omega
  | 1 => show 0 + 128 ≤ 128; omega
theorem islot_inb (s : Fin 2) : ∀ a, (![s.val, 0, 0] : Fin 3 → ℕ) a + S1x1x384.size a ≤ S2x1x384.size a := by
  revert s; decide
theorem rslot_inb (s : Fin 2) : ∀ a, (![s.val, 0, 0] : Fin 3 → ℕ) a + S1x384x128.size a ≤ S2x384x128.size a := by
  revert s; decide
theorem sem_inb (s : Fin 2) : ∀ a, (![s.val] : Fin 1 → ℕ) a + S1.size a ≤ S2.size a := by
  revert s; decide

/-- The window of the index array that is block `b` of tile `L`, and the window of the output. -/
abbrev idxWin (L : grid0.Coords) (b : Fin 4) : Memref sig .scVector .hbm S1x384 .i32 :=
  idxV.slice (Rect.unit (s := S1x49152) ![0, firstRow L + 384 * b.val] S1x384.size (idxWin_inb L b)) (fun _ => rfl)
abbrev outWin (L : grid0.Coords) (b : Fin 4) : Memref sig .scVector .hbm S384x128 .f32 :=
  outV.slice (Rect.unit (s := S49152x128) ![firstRow L + 384 * b.val, 0] S384x128.size (outWin_inb L b)) (fun _ => rfl)
/-- Slot `s` of the index scratch and of the row scratch. -/
abbrev islot (s : Fin 2) : Memref sig .scVector .vmem S1x384 .i32 :=
  (islotsV.slice (Rect.unit (s := S2x1x384) ![s.val, 0, 0] S1x1x384.size (islot_inb s)) (fun _ => rfl)).squeeze S1x384 squeezes_S1x1x384_S1x384
abbrev rslot (s : Fin 2) : Memref sig .scVector .vmem S384x128 .f32 :=
  (rslotsV.slice (Rect.unit (s := S2x384x128) ![s.val, 0, 0] S1x384x128.size (rslot_inb s)) (fun _ => rfl)).squeeze S384x128 squeezes_S1x384x128_S384x128
/-- The list of row numbers in index slot `s`, and the table, as the gather addresses them. -/
abbrev listOf (s : Fin 2) : Memref sig .scVector .vmem S384 .i32 :=
  ((islot s).slice (Rect.unit (s := S1x384) ![0, 0] S1x384.size inb_S1x384_S1x384_0_0) (fun _ => rfl)).squeeze S384 squeezes_S1x384_S384
abbrev tabAll : Memref sig .scVector .hbm S4096x128 .f32 :=
  tabV.slice (Rect.unit (s := S4096x128) ![0, 0] S4096x128.size inb_S4096x128_S4096x128_0_0) (fun _ => rfl)
/-- The semaphores of index slot `s`, of row slot `s`, and the gather's. -/
abbrev isem (s : Fin 2) : DmaSem sig :=
  ((cc0_scoped1.slice (Rect.unit (s := S2) ![s.val] S1.size (sem_inb s))).squeeze S_ squeezes_S1_S_).sem
abbrev rsem (s : Fin 2) : DmaSem sig :=
  ((cc0_scoped3.slice (Rect.unit (s := S2) ![s.val] S1.size (sem_inb s))).squeeze S_ squeezes_S1_S_).sem
abbrev gsem : DmaSem sig := cc0_scoped4.sem

theorem isem_zero : isem 0 = (0 : Fin 5) := by decide
theorem isem_one : isem 1 = (1 : Fin 5) := by decide
theorem rsem_zero : rsem 0 = (2 : Fin 5) := by decide
theorem rsem_one : rsem 1 = (3 : Fin 5) := by decide
theorem gsem_eq : gsem = (4 : Fin 5) := by decide

/-- The slot step `k` uses. -/
abbrev slotOf (k : ℕ) : Fin 2 := ⟨k % 2, Nat.mod_lt _ (by decide)⟩

theorem slotOf_add_two (k : ℕ) : slotOf (k + 2) = slotOf k := Fin.ext (by show (k + 2) % 2 = k % 2; omega)

/-! ## The 128 blocks of the index array and of the output -/

theorem idiv : 128 ∣ S1x49152.size 1 := ⟨384, rfl⟩
theorem odiv : 128 ∣ S49152x128.size 0 := ⟨384, rfl⟩
abbrev iRect (p : Fin 128) : Rect S1x49152 := Rect.part (s := S1x49152) (a₀ := 1) idiv p
abbrev oRect (p : Fin 128) : Rect S49152x128 := Rect.part (s := S49152x128) (a₀ := 0) odiv p
abbrev iSet (p : Fin 128) : Finset S1x49152.Idx := (iRect p).set
abbrev oSet (p : Fin 128) : Finset S49152x128.Idx := (oRect p).set

theorem iRect_eq (L : grid0.Coords) (b : Fin 4) :
    Rect.unit (s := S1x49152) ![0, firstRow L + 384 * b.val] S1x384.size (idxWin_inb L b) = iRect (blockOf L b) := by
  unfold iRect Rect.part Rect.block
  congr 1 <;> funext a
  · match a with
    | 0 => simp [Shape.partIx, Shape.partSize]
    | 1 =>
      have := firstRow_block L b
      simp only [Shape.partIx, Shape.partSize]
      show firstRow L + 384 * b.val = (blockOf L b).val * 384
      omega
  · match a with
    | 0 => simp [Shape.partSize]
    | 1 => simp [Shape.partSize]
theorem oRect_eq (L : grid0.Coords) (b : Fin 4) :
    Rect.unit (s := S49152x128) ![firstRow L + 384 * b.val, 0] S384x128.size (outWin_inb L b) = oRect (blockOf L b) := by
  unfold oRect Rect.part Rect.block
  congr 1 <;> funext a
  · match a with
    | 0 =>
      have := firstRow_block L b
      simp only [Shape.partIx, Shape.partSize]
      show firstRow L + 384 * b.val = (blockOf L b).val * 384
      omega
    | 1 => simp [Shape.partIx, Shape.partSize]
  · match a with
    | 0 => simp [Shape.partSize]
    | 1 => simp [Shape.partSize]

theorem set_idxWin (L : grid0.Coords) (b : Fin 4) : (idxWin L b).view.set = iSet (blockOf L b) := by
  show ((View.whole (main_v1_scv : Ref sig .scVector)).slice _).set = _
  rw [View.set_slice]; exact Finset.map_refl.trans (congrArg (fun r => r.set) (iRect_eq L b))
theorem set_outWin (L : grid0.Coords) (b : Fin 4) : (outWin L b).view.set = oSet (blockOf L b) := by
  show ((View.whole (main_v2_scv : Ref sig .scVector)).slice _).set = _
  rw [View.set_slice]; exact Finset.map_refl.trans (congrArg (fun r => r.set) (oRect_eq L b))

/-! ## The two slots of a scratch buffer -/

theorem isdiv : 2 ∣ S2x1x384.size 0 := ⟨1, rfl⟩
theorem rsdiv : 2 ∣ S2x384x128.size 0 := ⟨1, rfl⟩
abbrev isRect (s : Fin 2) : Rect S2x1x384 := Rect.part (s := S2x1x384) (a₀ := 0) isdiv s
abbrev rsRect (s : Fin 2) : Rect S2x384x128 := Rect.part (s := S2x384x128) (a₀ := 0) rsdiv s

theorem isRect_eq (s : Fin 2) : Rect.unit (s := S2x1x384) ![s.val, 0, 0] S1x1x384.size (islot_inb s) = isRect s := by
  unfold isRect Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem rsRect_eq (s : Fin 2) : Rect.unit (s := S2x384x128) ![s.val, 0, 0] S1x384x128.size (rslot_inb s) = rsRect s := by
  unfold rsRect Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_islot (s : Fin 2) : (islot s).view.set = (isRect s).set := by
  show (((View.whole (cc0_scoped0 : Ref sig .scVector)).slice _).reshape _ _).set = _
  rw [View.set_reshape, View.set_slice]; exact Finset.map_refl.trans (congrArg (fun r => r.set) (isRect_eq s))
theorem set_rslot (s : Fin 2) : (rslot s).view.set = (rsRect s).set := by
  show (((View.whole (cc0_scoped2 : Ref sig .scVector)).slice _).reshape _ _).set = _
  rw [View.set_reshape, View.set_slice]; exact Finset.map_refl.trans (congrArg (fun r => r.set) (rsRect_eq s))
/-- The list in a slot is the slot, element for element. -/
theorem set_listOf (s : Fin 2) : (listOf s).view.set = (islot s).view.set := by
  show (((islot s).view.slice _).reshape _ _).set = _
  rw [View.set_reshape, View.set_slice]
  have : (Rect.unit (s := S1x384) ![0, 0] S1x384.size inb_S1x384_S1x384_0_0).set = Finset.univ := by
    ext x; rw [Rect.mem_set_unit]
    simp only [Finset.mem_univ, iff_true]
    intro a
    match a with
    | 0 => exact ⟨Nat.zero_le _, by have : (x 0).val < 1 := (x 0).isLt; show (x 0).val < 0 + 1; omega⟩
    | 1 => exact ⟨Nat.zero_le _, by have : (x 1).val < 384 := (x 1).isLt; show (x 1).val < 0 + 384; omega⟩
  rw [this]; rfl

/-! ## Shares of the table -/

/-- Piece `i` of share `q` halved `n` times. -/
def piece : (n : ℕ) → PosShare TreeShare → Fin (2 ^ n) → PosShare TreeShare
  | 0, q, _ => q
  | n + 1, q, i => Sum.elim (piece n q.left) (piece n q.right) ((finSumFinEquiv.trans (finCongr (show 2 ^ n + 2 ^ n = 2 ^ (n + 1) by omega))).symm i)

/-- Holding a share is holding all of its pieces. -/
theorem pointsTo_pieces_of {ℓ : Loc nD τ sig} (I : Finset (Idx ℓ)) (f : Buf (Elt F) ℓ) (n : ℕ) : ∀ q : PosShare TreeShare,
    (ℓ ↦[I]{q} f : sProp 𝕄) = bigSep Finset.univ fun i : Fin (2 ^ n) => ℓ ↦[I]{piece n q i} f := by
  induction n with
  | zero => intro q; exact (bigSep_univ_of_subsingleton (0 : Fin 1) (Φ := fun i : Fin (2 ^ 0) => (ℓ ↦[I]{piece 0 q i} f : sProp 𝕄))).symm
  | succ n ih =>
    intro q
    rw [BI.Entails.antisymm (pointsTo_share (PosShare.mem_left_op_right q)).1 (pointsTo_share (PosShare.mem_left_op_right q)).2, ih q.left, ih q.right,
      bigSep_univ_equiv (finSumFinEquiv.trans (finCongr (show 2 ^ n + 2 ^ n = 2 ^ (n + 1) by omega))) (fun i : Fin (2 ^ (n + 1)) => (ℓ ↦[I]{piece (n + 1) q i} f : sProp 𝕄)),
      bigSep_univ_sum]
    simp only [piece, Equiv.symm_apply_apply, Sum.elim_inl, Sum.elim_inr]
    rfl

/-- Core `c`'s half of the table, and its tile `i`'s sixteenth of that. -/
abbrev coreShare (c : Fin 2) : PosShare TreeShare := piece 1 fullShare c
abbrev tileShare (c : Fin 2) (i : Fin 16) : PosShare TreeShare := piece 4 (coreShare c) i

end Cert.Proof.Rows

end
-- ==== Proof.Values.lean ====
/-
  What a block's gather delivers. The wanted output, as a function of the table and of the flat index array: row `r` is
  the table's row numbered by word `r`. If an index slot reads as block `b` of the index array, the list the gather
  follows reads word `j` of that block at `j`, and so the gathered rows are block `b` of the wanted output.
-/
module

public import proofs.«01_k».proof.Proof.Setup

@[expose] public section

noncomputable section

namespace Cert.Proof.Rows

open Cert.KernelIdeal Cert.KernelIdeal.Gen

open Idealize.ShloMosaic
open Idealize.ShloMosaic.SparseCore (S V T rows gatherPayload)

variable {F : FTy → Type}

/-- Position `r` of the flat index array. -/
abbrev flatAt (r : Fin 49152) : S1x49152.Idx := Shape.pair (d := ![1, 49152]) (0 : Fin 1) r
/-- Element `(r, c)` of the table. -/
abbrev tabAt (r : Fin 4096) (c : Fin 128) : S4096x128.Idx := Shape.pair (d := ![4096, 128]) r c

/-- A word as a row number of the table. -/
abbrev rowNo (w : BitVec 32) : Fin 4096 := ⟨w.toNat % 4096, Nat.mod_lt _ (by decide)⟩

/-- The wanted output: row `r` is the table's row numbered by word `r`. -/
def gathered (tab : S4096x128.Idx → Elt F .f32) (iv : S1x49152.Idx → Elt F .i32) : S49152x128.Idx → Elt F .f32 :=
  fun y => tab (tabAt (rowNo (iv (flatAt (y 0)))) (y 1))

theorem row_lt (L : grid0.Coords) (b : Fin 4) (j : Fin 384) : firstRow L + 384 * b.val + j.val < 49152 := by
  rw [firstRow_block]; have := (blockOf L b).isLt; omega

/-- The row of the output that row `j` of block `b` is. -/
abbrev rowOf (L : grid0.Coords) (b : Fin 4) (j : Fin 384) : Fin 49152 := ⟨firstRow L + 384 * b.val + j.val, row_lt L b j⟩

theorem idxWin_emb (L : grid0.Coords) (b : Fin 4) (y : S1x384.Idx) : (idxWin L b).view.emb y = flatAt (rowOf L b (y 1)) := by
  funext a; apply Fin.ext
  match a with
  | 0 =>
    have h : (y 0).val < 1 := (y 0).isLt
    show 0 + 1 * (y 0).val = 0
    omega
  | 1 => show (firstRow L + 384 * b.val) + 1 * (y 1).val = _; rw [Nat.one_mul]; rfl

theorem outWin_emb (L : grid0.Coords) (b : Fin 4) (x : S384x128.Idx) :
    (outWin L b).view.emb x = Shape.pair (d := ![49152, 128]) (rowOf L b (x 0)) (x 1) := by
  funext a; apply Fin.ext
  match a with
  | 0 => show (firstRow L + 384 * b.val) + 1 * (x 0).val = _; rw [Nat.one_mul]; rfl
  | 1 => show 0 + 1 * (x 1).val = (x 1).val; omega

theorem tabAll_emb (x : S4096x128.Idx) : tabAll.view.emb x = x := by
  funext a; apply Fin.ext
  match a with
  | 0 => show 0 + 1 * (x 0).val = (x 0).val; omega
  | 1 => show 0 + 1 * (x 1).val = (x 1).val; omega

theorem read_tabAll (tab : S4096x128.Idx → Elt F .f32) (x : S4096x128.Idx) : tabAll.view.read (Elt F) tab x = tab x :=
  (View.read_apply _ _).trans ((cast_eq _ _).trans (congrArg tab (tabAll_emb x)))

theorem read_idxWin (L : grid0.Coords) (b : Fin 4) (iv : S1x49152.Idx → Elt F .i32) (y : S1x384.Idx) :
    (idxWin L b).view.read (Elt F) iv y = iv (flatAt (rowOf L b (y 1))) :=
  (View.read_apply _ _).trans ((cast_eq _ _).trans (congrArg iv (idxWin_emb L b y)))

/-- The list in slot `s` reads, at `x`, the slot at `(0, x)`. -/
theorem read_listOf (s : Fin 2) (f : S2x1x384.Idx → Elt F .i32) (x : S384.Idx) :
    (listOf s).view.read (Elt F) f x = (islot s).view.read (Elt F) f (Shape.pair (d := ![1, 384]) (0 : Fin 1) (x 0)) := by
  have e : (Rect.unit (s := S1x384) ![0, 0] S1x384.size inb_S1x384_S1x384_0_0).emb
      (Shape.reshapeEquiv (s := S1x384) (s' := S384) squeezes_S1x384_S384.numel_eq x) = Shape.pair (d := ![1, 384]) (0 : Fin 1) (x 0) := by
    rw [Shape.reshapeEquiv_eq_of_rowMajor (s := S1x384) (s' := S384) squeezes_S1x384_S384.numel_eq
      (x := x) (y := Shape.pair (d := ![1, 384]) (0 : Fin 1) (x 0))
      ((Shape.rowMajor_pair_val (d := ![1, 384]) (0 : Fin 1) (x 0)).trans
        ((show 0 * 384 + (x 0).val = (x 0).val by omega).trans (Shape.rowMajor_val_one (d := ![384]) x).symm))]
    funext a; apply Fin.ext
    match a with
    | 0 => rfl
    | 1 => show 0 + 1 * (x 0).val = (x 0).val; omega
  exact (View.read_apply _ _).trans ((congrArg (fun z => _root_.cast (congrArg (Elt F) (islot s).view.elt_eq) (f ((islot s).view.emb z))) e).trans
    (View.read_apply _ _).symm)

/-- If the slot holds block `b` of the index array, the list's words are the block's. -/
theorem read_list_of_slot {L : grid0.Coords} {b : Fin 4} {s : Fin 2} {f : S2x1x384.Idx → Elt F .i32} {iv : S1x49152.Idx → Elt F .i32}
    (h : (islot s).view.read (Elt F) f = (idxWin L b).view.read (Elt F) iv) (x : S384.Idx) :
    (listOf s).view.read (Elt F) f x = iv (flatAt (rowOf L b (x 0))) := by
  rw [read_listOf, h, read_idxWin]; rfl

/-- In range: every word of the index array numbers a row of the table. -/
def InRange (iv : S1x49152.Idx → Elt F .i32) : Prop := ∀ y, (show BitVec 32 from iv y).toNat < 4096

theorem list_inRange {L : grid0.Coords} {b : Fin 4} {s : Fin 2} {f : S2x1x384.Idx → Elt F .i32} {iv : S1x49152.Idx → Elt F .i32}
    (h : (islot s).view.read (Elt F) f = (idxWin L b).view.read (Elt F) iv) (hiv : InRange iv) (x : S384.Idx) :
    ((listOf s).view.read (Elt F) f x).toNat < S4096x128.size gathers_S4096x128_S384x128.axis := by
  rw [read_list_of_slot h]; exact hiv _

/-- The gathered rows are block `b` of the wanted output. -/
theorem payload_eq {L : grid0.Coords} {b : Fin 4} {s : Fin 2} {f : S2x1x384.Idx → Elt F .i32} {iv : S1x49152.Idx → Elt F .i32}
    {tab : S4096x128.Idx → Elt F .f32}
    (h : (islot s).view.read (Elt F) f = (idxWin L b).view.read (Elt F) iv) (hiv : InRange iv)
    (hn : S384.numel = S384x128.size gathers_S4096x128_S384x128.axis')
    (hin : ∀ x, ((listOf s).view.read (Elt F) f x).toNat < S4096x128.size gathers_S4096x128_S384x128.axis) (x : S384x128.Idx) :
    gatherPayload gathers_S4096x128_S384x128 (tabAll.view.read (Elt F) tab) (rows ((listOf s).view.read (Elt F) f) hn hin) x
      = gathered tab iv ((outWin L b).view.emb x) := by
  unfold gatherPayload
  rw [read_tabAll, outWin_emb]
  unfold gathered
  refine congrArg tab ?_
  funext a; apply Fin.ext
  match a with
  | 0 =>
    refine (congrArg Fin.val (Shape.Gathers.idx_axis gathers_S4096x128_S384x128 _ x)).trans ?_
    show ((listOf s).view.read (Elt F) f (S384.rowMajor.symm _)).toNat = (show BitVec 32 from iv (flatAt (rowOf L b (x 0)))).toNat % 4096
    rw [Nat.mod_eq_of_lt (hiv _), read_list_of_slot h]
    have e : (S384.rowMajor.symm ((x (gathers_S4096x128_S384x128).axis').cast hn.symm)) 0 = x 0 := by
      apply Fin.ext
      have := Shape.rowMajor_val_one (d := ![384]) (S384.rowMajor.symm ((x (gathers_S4096x128_S384x128).axis').cast hn.symm))
      rw [← this]; simp; rfl
    exact congrArg (fun z => (show BitVec 32 from iv (flatAt (rowOf L b z))).toNat) e
  | 1 => exact Shape.Gathers.idx_of_ne gathers_S4096x128_S384x128 _ x 1 (by decide)

/-- Writing block `b` of the wanted output over an output window leaves the wanted output there. -/
theorem write_outWin {L : grid0.Coords} {b : Fin 4} {iv : S1x49152.Idx → Elt F .i32} {tab : S4096x128.Idx → Elt F .f32}
    (g : S49152x128.Idx → Elt F .f32) (w : S384x128.Idx → Elt F .f32) (hw : ∀ x, w x = gathered tab iv ((outWin L b).view.emb x)) :
    ∀ y ∈ (outWin L b).view.set, (outWin L b).view.write (Elt F) g w Finset.univ y = gathered tab iv y := by
  intro y hy
  obtain ⟨x, -, rfl⟩ := Finset.mem_map.mp hy
  rw [View.write_emb_of_mem _ _ (Finset.mem_univ x), hw]
  exact cast_eq _ _

end Cert.Proof.Rows

end
-- ==== Proof.Ops.lean ====
/-
  The tile's six transfers, each once: an index block's copy into a slot and its wait, the gather of a row slot and its
  wait, a row slot's copy out to an output block and its wait. What is in flight carries the contents it will deliver:
  an index copy delivers a slot that reads as its block, a gather delivers a row slot that reads as its block of the
  wanted output, a copy out delivers that block of the output at the wanted output.
-/
module

public import proofs.«01_k».proof.Proof.Values

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)
variable (tab : S4096x128.Idx → Elt F .f32) (iv : S1x49152.Idx → Elt F .i32)

/-! ## What the tile holds -/

abbrev iBlk (b : Fin 4) : sProp 𝕄 := (idxWin L b).view.loc (thrV d L) ↦[(idxWin L b).view.set]{fullShare} iv
abbrev oBlk (b : Fin 4) (g : S49152x128.Idx → Elt F .f32) : sProp 𝕄 := (outWin L b).view.loc (thrV d L) ↦[(outWin L b).view.set]{fullShare} g
abbrev iSlot (s : Fin 2) (f : S2x1x384.Idx → Elt F .i32) : sProp 𝕄 := (islot s).view.loc (thrV d L) ↦[(islot s).view.set]{fullShare} f
abbrev rSlot (s : Fin 2) (f : S2x384x128.Idx → Elt F .f32) : sProp 𝕄 := (rslot s).view.loc (thrV d L) ↦[(rslot s).view.set]{fullShare} f
abbrev tabPts (q : PosShare TreeShare) : sProp 𝕄 := tabAll.view.loc (thrV d L) ↦[tabAll.view.set]{q} tab
abbrev zeroAt (sm : DmaSem sig) : sProp 𝕄 := semVal (thrV d L, SemLoc.dma sm) 0

/-- Slot `s` holds block `b` of the index array. -/
abbrev iLanded (s : Fin 2) (b : Fin 4) : sProp 𝕄 :=
  iprop(∃ f, ⌜(islot s).view.read (Elt F) f = (idxWin L b).view.read (Elt F) iv⌝ ∗ iSlot d L s f)
/-- Row slot `s` holds block `b` of the wanted output. -/
abbrev rLanded (s : Fin 2) (b : Fin 4) : sProp 𝕄 :=
  iprop(∃ f, ⌜∀ x, (rslot s).view.read (Elt F) f x = gathered tab iv ((outWin L b).view.emb x)⌝ ∗ rSlot d L s f)
abbrev iFree (s : Fin 2) : sProp 𝕄 := iprop((∃ f, iSlot (F := F) d L s f) ∗ zeroAt d L (isem s))
abbrev rFree (s : Fin 2) : sProp 𝕄 := iprop((∃ f, rSlot (F := F) d L s f) ∗ zeroAt d L (rsem s))

/-- Block `b`'s copy into index slot `s`, in flight. -/
abbrev iFlight (s : Fin 2) (b : Fin 4) : sProp 𝕄 :=
  Transfers.Flight countersEmb (thrV d L) (SemLoc.dma (isem s)) (none : HIx 1) (islot s).view.dmaCredit iprop(iLanded d L iv s b ∗ iBlk d L iv b)
/-- Row slot `s`'s copy out to block `b`, in flight. -/
abbrev oFlight (s : Fin 2) (b : Fin 4) : sProp 𝕄 :=
  Transfers.Flight countersEmb (thrV d L) (SemLoc.dma (rsem s)) (none : HIx 1) (outWin L b).view.dmaCredit
    iprop(oBlk d L b (gathered tab iv) ∗ ∃ f, rSlot (F := F) d L s f)
/-- The gather of block `b` into row slot `s`, in flight. -/
abbrev gFlight (s : Fin 2) (b : Fin 4) (q : PosShare TreeShare) : sProp 𝕄 :=
  Transfers.Flight countersEmb (thrV d L) (SemLoc.dma gsem) (none : HIx 1) (rslot s).view.dmaCredit
    iprop(rLanded d L tab iv s b ∗ tabPts d L tab q ∗ iLanded d L iv s b)

local notation "WP" => wp frame (wpE (defs₀ (F := F)) 𝒱₀ (thrV d L) none) Set.univ

/-! ## An index block in -/

theorem wp_startIn (s : Fin 2) (b : Fin 4) {o₁ : Fin 3 → ℕ} {o₂ : Fin 2 → ℕ} {o₃ : Fin 1 → ℕ}
    (e₁ : o₁ = ![s.val, 0, 0]) (e₂ : o₂ = ![0, firstRow L + 384 * b.val]) (e₃ : o₃ = ![s.val])
    {h₁ : ∀ a, o₁ a + S1x1x384.size a ≤ S2x1x384.size a} {h₂ : ∀ a, o₂ a + S1x384.size a ≤ S1x49152.size a} {h₃ : ∀ a, o₃ a + S1.size a ≤ S2.size a}
    {hsrc hdst hsem} {α : Type} {k : PUnit → Prog (TpuEff nD τ sig (Elt F) Λ₀ (thrV d L).2) α} {Q : α → sProp 𝕄} :
    iprop(iBlk d L iv b ∗ iFree d L s)
      ⊢ iprop((iFlight d L iv s b -∗ WP (k ⟨⟩) Q)
          -∗ WP (.op (.enqueueDma (idxV.slice (Rect.unit (s := S1x49152) o₂ S1x384.size h₂) (fun _ => rfl))
            (.here ((islotsV.slice (Rect.unit (s := S2x1x384) o₁ S1x1x384.size h₁) (fun _ => rfl)).squeeze S1x384 squeezes_S1x1x384_S1x384))
            (.dma ((cc0_scoped1.slice (Rect.unit (s := S2) o₃ S1.size h₃)).squeeze S_ squeezes_S1_S_).sem) hsrc hdst hsem) k) Q) := by
  subst e₁ e₂ e₃
  iintro ⟨Hb, ⟨%f, Hs⟩, Hz⟩ Hk
  iapply (Transfers.wp_dmaLocal countersEmb 𝒱₀ (thrV d L) none (src := idxWin L b) (dst := islot s) (fs := iv) (fd := f) (none : HIx 1)
    (islot s).view.dmaCredit rfl (View.dmaCredit_pos _ (by decide)) (Finset.Subset.refl _)) $$ [Hb Hs Hz]
  · isplitl [Hb]; · iexact Hb
    isplitl [Hs]; · iexact Hs
    iexact Hz
  iintro Hf
  iapply Hk
  iapply (Transfers.Flight_mono countersEmb (thrV d L) (show _ ⊢ iprop(iLanded d L iv s b ∗ iBlk d L iv b) from ?_)) $$ Hf
  iintro ⟨Hs, Hb⟩
  isplitl [Hs]
  · iexists _; isplitr
    swap; · iexact Hs
    ipureintro; exact View.read_write_univ _ _
  · iexact Hb

theorem wp_endIn (s : Fin 2) (b : Fin 4) {o₁ : Fin 3 → ℕ} {o₂ : Fin 2 → ℕ} {o₃ : Fin 1 → ℕ}
    (e₁ : o₁ = ![s.val, 0, 0]) (e₃ : o₃ = ![s.val])
    {h₁ : ∀ a, o₁ a + S1x1x384.size a ≤ S2x1x384.size a} {h₂ : ∀ a, o₂ a + S1x384.size a ≤ S1x49152.size a} {h₃ : ∀ a, o₃ a + S1.size a ≤ S2.size a}
    {hsrc hdst} {α : Type} {k : PUnit → Prog (TpuEff nD τ sig (Elt F) Λ₀ (thrV d L).2) α} {Q : α → sProp 𝕄}
    {O : CellTallies nD τ sig (HIx 1)} {W : Waits sig (HIx 1)} :
    iprop(iFlight d L iv s b ∗ owes (thrV d L) O W ∗ Transfers.MayWaits (thrV d L) (none : HIx 1) O)
      ⊢ iprop((iprop((iLanded d L iv s b ∗ iBlk d L iv b) ∗ zeroAt d L (isem s) ∗ owes (thrV d L) O (insert (SemLoc.dma (isem s), none) W)) -∗ WP (k ⟨⟩) Q)
          -∗ WP (.op (.waitDma2 ((cc0_scoped1.slice (Rect.unit (s := S2) o₃ S1.size h₃)).squeeze S_ squeezes_S1_S_).sem
            (idxV.slice (Rect.unit (s := S1x49152) o₂ S1x384.size h₂) (fun _ => rfl))
            ((islotsV.slice (Rect.unit (s := S2x1x384) o₁ S1x1x384.size h₁) (fun _ => rfl)).squeeze S1x384 squeezes_S1x1x384_S1x384) hsrc hdst) k) Q) := by
  subst e₁ e₃
  iintro ⟨Hf, HO, Hmw⟩ Hk
  iapply (Transfers.wp_waitLocalO countersEmb 𝒱₀ (thrV d L) none (dstw := islot s) (none : HIx 1) rfl) $$ [Hf HO Hmw]
  · isplitl [Hf]; · iexact Hf
    isplitl [HO]; · iexact HO
    iapply (Transfers.MayWaits.elim (SemLoc.dma (isem s))) $$ Hmw
  iexact Hk

/-! ## The gather -/

theorem credit_rows (s : Fin 2) : ∀ h : S4096x128.Gathers 0 S384x128,
    ∑ j, ((rslot s).slice (S384x128.rowRect h.axis' j) (S384x128.stride_rowRect h.axis' j)).view.dmaCredit = (rslot s).view.dmaCredit := by
  revert s; decide +kernel

theorem wp_startGather (s : Fin 2) (b : Fin 4) (q : PosShare TreeShare) (hiv : InRange iv) {o₁ o₂ : Fin 3 → ℕ}
    (e₁ : o₁ = ![s.val, 0, 0]) (e₂ : o₂ = ![s.val, 0, 0])
    {h₁ : ∀ a, o₁ a + S1x384x128.size a ≤ S2x384x128.size a} {h₂ : ∀ a, o₂ a + S1x1x384.size a ≤ S2x1x384.size a}
    {hp hn hsrc he hsp hr} {α : Type} {k : PUnit → Prog (TpuEff nD τ sig (Elt F) Λ₀ (thrV d L).2) α} {Q : α → sProp 𝕄} :
    iprop(tabPts d L tab q ∗ (∃ f, rSlot (F := F) d L s f) ∗ iLanded d L iv s b ∗ zeroAt d L gsem)
      ⊢ iprop((gFlight d L tab iv s b q -∗ WP (k ⟨⟩) Q)
          -∗ WP (SparseCore.enqueueIndirectGather hp tabAll
            ((rslotsV.slice (Rect.unit (s := S2x384x128) o₁ S1x384x128.size h₁) (fun _ => rfl)).squeeze S384x128 squeezes_S1x384x128_S384x128)
            gathers_S4096x128_S384x128
            ((((islotsV.slice (Rect.unit (s := S2x1x384) o₂ S1x1x384.size h₂) (fun _ => rfl)).squeeze S1x384 squeezes_S1x1x384_S1x384).slice
              (Rect.unit (s := S1x384) ![0, 0] S1x384.size inb_S1x384_S1x384_0_0) (fun _ => rfl)).squeeze S384 squeezes_S1x384_S384)
            hn gsem hsrc he hsp hr >>= k) Q) := by
  subst e₁ e₂
  iintro ⟨Ht, ⟨%fr, Hr⟩, ⟨%fo, %hfo, Hs⟩, Hz⟩ Hk
  ihave Hs' := (Entails.of_eq (show (iSlot d L s fo : sProp 𝕄) = ((listOf s).view.loc (thrV d L) ↦[(listOf s).view.set]{fullShare} fo) by
    rw [set_listOf])) $$ Hs
  iapply (SparseCore.wp_indirectGatherLocal countersEmb 𝒱₀ (thrV d L) none (src := tabAll) (dst := rslot s) (hg := gathers_S4096x128_S384x128)
    (offs := listOf s) (fs := tab) (fd := fr) (fo := fo) (none : HIx 1) (rslot s).view.dmaCredit (credit_rows s _) (by decide) (list_inRange hfo hiv)) $$ [Ht Hr Hs' Hz]
  · isplitl [Ht]; · iexact Ht
    isplitl [Hr]; · iexact Hr
    isplitl [Hs']; · iexact Hs'
    iexact Hz
  iintro Hf
  iapply Hk
  iapply (Transfers.Flight_mono countersEmb (thrV d L) (show _ ⊢ iprop(rLanded d L tab iv s b ∗ tabPts d L tab q ∗ iLanded d L iv s b) from ?_)) $$ Hf
  iintro ⟨Hr, Ht, Hs⟩
  isplitl [Hr]
  · iexists _; isplitr
    swap; · iexact Hr
    ipureintro; intro x
    rw [View.read_write_univ]
    exact payload_eq hfo hiv _ _ x
  isplitl [Ht]; · iexact Ht
  iexists fo; isplitr
  · ipureintro; exact hfo
  · iapply (Entails.of_eq (show ((listOf s).view.loc (thrV d L) ↦[(listOf s).view.set]{fullShare} fo) = (iSlot d L s fo : sProp 𝕄) by rw [set_listOf])); iexact Hs

theorem wp_endGather (s : Fin 2) (b : Fin 4) (q : PosShare TreeShare) {o₁ : Fin 3 → ℕ} (e₁ : o₁ = ![s.val, 0, 0])
    {h₁ : ∀ a, o₁ a + S1x384x128.size a ≤ S2x384x128.size a}
    {hsrc hdst} {α : Type} {k : PUnit → Prog (TpuEff nD τ sig (Elt F) Λ₀ (thrV d L).2) α} {Q : α → sProp 𝕄}
    {O : CellTallies nD τ sig (HIx 1)} {W : Waits sig (HIx 1)} :
    iprop(gFlight d L tab iv s b q ∗ owes (thrV d L) O W ∗ Transfers.MayWaits (thrV d L) (none : HIx 1) O)
      ⊢ iprop((iprop((rLanded d L tab iv s b ∗ tabPts d L tab q ∗ iLanded d L iv s b) ∗ zeroAt d L gsem ∗ owes (thrV d L) O (insert (SemLoc.dma gsem, none) W)) -∗ WP (k ⟨⟩) Q)
          -∗ WP (.op (.waitDma2 gsem tabAll
            ((rslotsV.slice (Rect.unit (s := S2x384x128) o₁ S1x384x128.size h₁) (fun _ => rfl)).squeeze S384x128 squeezes_S1x384x128_S384x128) hsrc hdst) k) Q) := by
  subst e₁
  iintro ⟨Hf, HO, Hmw⟩ Hk
  iapply (Transfers.wp_waitLocalO countersEmb 𝒱₀ (thrV d L) none (dstw := rslot s) (none : HIx 1) rfl) $$ [Hf HO Hmw]
  · isplitl [Hf]; · iexact Hf
    isplitl [HO]; · iexact HO
    iapply (Transfers.MayWaits.elim (SemLoc.dma gsem)) $$ Hmw
  iexact Hk

/-! ## A row block out -/

theorem wp_startOut (s : Fin 2) (b : Fin 4) {o₁ : Fin 3 → ℕ} {o₂ : Fin 2 → ℕ} {o₃ : Fin 1 → ℕ}
    (e₁ : o₁ = ![s.val, 0, 0]) (e₂ : o₂ = ![firstRow L + 384 * b.val, 0]) (e₃ : o₃ = ![s.val])
    {h₁ : ∀ a, o₁ a + S1x384x128.size a ≤ S2x384x128.size a} {h₂ : ∀ a, o₂ a + S384x128.size a ≤ S49152x128.size a} {h₃ : ∀ a, o₃ a + S1.size a ≤ S2.size a}
    {hsrc hdst hsem} {α : Type} {k : PUnit → Prog (TpuEff nD τ sig (Elt F) Λ₀ (thrV d L).2) α} {Q : α → sProp 𝕄} (g : S49152x128.Idx → Elt F .f32) :
    iprop(rLanded d L tab iv s b ∗ oBlk d L b g ∗ zeroAt d L (rsem s))
      ⊢ iprop((oFlight d L tab iv s b -∗ WP (k ⟨⟩) Q)
          -∗ WP (.op (.enqueueDma ((rslotsV.slice (Rect.unit (s := S2x384x128) o₁ S1x384x128.size h₁) (fun _ => rfl)).squeeze S384x128 squeezes_S1x384x128_S384x128)
            (.here (outV.slice (Rect.unit (s := S49152x128) o₂ S384x128.size h₂) (fun _ => rfl)))
            (.dma ((cc0_scoped3.slice (Rect.unit (s := S2) o₃ S1.size h₃)).squeeze S_ squeezes_S1_S_).sem) hsrc hdst hsem) k) Q) := by
  subst e₁ e₂ e₃
  iintro ⟨⟨%f, %hf, Hr⟩, Hb, Hz⟩ Hk
  iapply (Transfers.wp_dmaLocal countersEmb 𝒱₀ (thrV d L) none (src := rslot s) (dst := outWin L b) (fs := f) (fd := g) (none : HIx 1)
    (outWin L b).view.dmaCredit rfl (View.dmaCredit_pos _ (by decide)) (Finset.Subset.refl _)) $$ [Hb Hr Hz]
  · isplitl [Hr]; · iexact Hr
    isplitl [Hb]; · iexact Hb
    iexact Hz
  iintro Hf
  iapply Hk
  iapply (Transfers.Flight_mono countersEmb (thrV d L) (show _ ⊢ iprop(oBlk d L b (gathered tab iv) ∗ ∃ f, rSlot (F := F) d L s f) from ?_)) $$ Hf
  iintro ⟨Hb, Hr⟩
  isplitl [Hb]
  · iapply (Entails.of_eq (pointsTo_congr (write_outWin (L := L) (b := b) (iv := iv) (tab := tab) g _ hf))); iexact Hb
  · iexists f; iexact Hr

theorem wp_endOut (s : Fin 2) (b : Fin 4) {o₁ : Fin 3 → ℕ} {o₂ : Fin 2 → ℕ} {o₃ : Fin 1 → ℕ}
    (e₂ : o₂ = ![firstRow L + 384 * b.val, 0]) (e₃ : o₃ = ![s.val])
    {h₁ : ∀ a, o₁ a + S1x384x128.size a ≤ S2x384x128.size a} {h₂ : ∀ a, o₂ a + S384x128.size a ≤ S49152x128.size a} {h₃ : ∀ a, o₃ a + S1.size a ≤ S2.size a}
    {hsrc hdst} {α : Type} {k : PUnit → Prog (TpuEff nD τ sig (Elt F) Λ₀ (thrV d L).2) α} {Q : α → sProp 𝕄}
    {O : CellTallies nD τ sig (HIx 1)} {W : Waits sig (HIx 1)} :
    iprop(oFlight d L tab iv s b ∗ owes (thrV d L) O W ∗ Transfers.MayWaits (thrV d L) (none : HIx 1) O)
      ⊢ iprop((iprop((oBlk d L b (gathered tab iv) ∗ ∃ f, rSlot (F := F) d L s f) ∗ zeroAt d L (rsem s) ∗ owes (thrV d L) O (insert (SemLoc.dma (rsem s), none) W)) -∗ WP (k ⟨⟩) Q)
          -∗ WP (.op (.waitDma2 ((cc0_scoped3.slice (Rect.unit (s := S2) o₃ S1.size h₃)).squeeze S_ squeezes_S1_S_).sem
            ((rslotsV.slice (Rect.unit (s := S2x384x128) o₁ S1x384x128.size h₁) (fun _ => rfl)).squeeze S384x128 squeezes_S1x384x128_S384x128)
            (outV.slice (Rect.unit (s := S49152x128) o₂ S384x128.size h₂) (fun _ => rfl)) hsrc hdst) k) Q) := by
  subst e₂ e₃
  iintro ⟨Hf, HO, Hmw⟩ Hk
  iapply (Transfers.wp_waitLocalO countersEmb 𝒱₀ (thrV d L) none (dstw := outWin L b) (none : HIx 1) rfl) $$ [Hf HO Hmw]
  · isplitl [Hf]; · iexact Hf
    isplitl [HO]; · iexact HO
    iapply (Transfers.MayWaits.elim (SemLoc.dma (rsem s))) $$ Hmw
  iexact Hk

end Cert.Proof.Rows

end
-- ==== Proof.Trip.lean ====
/-
  One step of the pipeline. Before step `k` the tile has: block `k` of the indices on its way into slot `k`, the other
  slot free; row slot `k` free, the other row slot on its way out to block `k - 1`; the index blocks at home but `k`; the
  output blocks from `k` on as they were and those below `k - 1` at the wanted output. The step asks for index block
  `k + 1` (while there is one), waits for block `k`, gathers its rows, starts them out, and waits for block `k - 1`
  (when there is one).
-/
module

public import proofs.«01_k».proof.Proof.Ops

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)
variable (tab : S4096x128.Idx → Elt F .f32) (iv : S1x49152.Idx → Elt F .i32) (g₀ : S49152x128.Idx → Elt F .f32) (q : PosShare TreeShare)
variable (O : CellTallies nD τ sig (HIx 1)) (W : Waits sig (HIx 1))

local notation "WP" => wp frame (wpE (defs₀ (F := F)) 𝒱₀ (thrV d L) none) Set.univ

/-! ## The blocks at home and out, by step -/

/-- The index blocks at home before step `k`, and once step `k` has asked for block `k + 1`. -/
abbrev home (k : ℕ) : Finset (Fin 4) := Finset.univ.filter fun b => b.val ≠ k
abbrev homeNext (k : ℕ) : Finset (Fin 4) := Finset.univ.filter fun b => b.val ≠ k ∧ b.val ≠ k + 1
/-- The output blocks not started before step `k`, and those finished. -/
abbrev ahead (k : ℕ) : Finset (Fin 4) := Finset.univ.filter fun b => k ≤ b.val
abbrev done (k : ℕ) : Finset (Fin 4) := Finset.univ.filter fun b => b.val + 1 < k

theorem home_next : ∀ (k : ℕ) (h : k + 1 < 4), home k = insert ⟨k + 1, h⟩ (homeNext k) ∧ (⟨k + 1, h⟩ : Fin 4) ∉ homeNext k
  | 0, _ | 1, _ | 2, _ => by decide +revert
  | _ + 3, h => absurd h (by omega)
theorem home_last (k : ℕ) (h : ¬ k + 1 < 4) (hk : k < 4) : home k = homeNext k := by
  obtain rfl : k = 3 := by omega
  decide
theorem home_succ : ∀ k : Fin 4, home (k.val + 1) = insert k (homeNext k) ∧ k ∉ homeNext k := by decide
theorem ahead_eq : ∀ k : Fin 4, ahead k = insert k (ahead (k.val + 1)) ∧ k ∉ ahead (k.val + 1) := by decide
theorem done_succ : ∀ (k : ℕ) (_ : 1 ≤ k) (h : k - 1 < 4), done (k + 1) = insert ⟨k - 1, h⟩ (done k) ∧ (⟨k - 1, h⟩ : Fin 4) ∉ done k
  | 0, h, _ => absurd h (by omega)
  | 1, _, _ | 2, _, _ | 3, _, _ | 4, _, _ => by decide +revert
  | _ + 5, _, h => absurd h (by omega)

theorem bigSep_ins {A B : Finset (Fin 4)} {b : Fin 4} (h : A = insert b B ∧ b ∉ B) (Φ : Fin 4 → sProp 𝕄) :
    bigSep A Φ = iprop(Φ b ∗ bigSep B Φ) := by
  rw [h.1, SparseCore.bigSep_insert' h.2]

/-! ## The slots, by step -/

/-- The index slot of block `k`: that block on its way, or free past the last. -/
def inSlot (k : ℕ) : sProp 𝕄 := if h : k < 4 then iFlight d L iv (slotOf k) ⟨k, h⟩ else iFree d L (slotOf k)
/-- The row slot of block `k - 1`: on its way out, or free before the first. -/
def outSlot (k : ℕ) : sProp 𝕄 :=
  if h : 1 ≤ k ∧ k - 1 < 4 then oFlight d L tab iv (slotOf (k + 1)) ⟨k - 1, h.2⟩ else rFree d L (slotOf (k + 1))

/-- The waits recorded so far are the caller's or at no level. -/
def owing : sProp 𝕄 := iprop(∃ W', ⌜∀ p ∈ W', p ∈ W ∨ p.2 = none⌝ ∗ owes (thrV d L) O W')

/-- Before step `k`. -/
def Inv (k : ℕ) (acc : BitVec 32 × BitVec 32 × BitVec 32 × BitVec 32 × BitVec 32) : sProp 𝕄 :=
  iprop(⌜acc = carried k⌝ ∗ levAts (K (F := F)).L (K (F := F)).lev ∗ owing d L O W ∗ tabPts d L tab q ∗ zeroAt d L gsem
    ∗ inSlot d L iv k ∗ iFree d L (slotOf (k + 1)) ∗ rFree d L (slotOf k) ∗ outSlot d L tab iv k
    ∗ (bigSep (home k) fun b => iBlk d L iv b) ∗ (bigSep (ahead k) fun b => oBlk d L b g₀) ∗ bigSep (done k) fun b => oBlk d L b (gathered tab iv))

/-! ## The parts of a step -/

/-- A guarded operation: what holds after it holds without it when the guard fails. -/
theorem wp_guard {c : Prop} {_ : Decidable c} {α : Type} {rest : Prog (TpuEff nD τ sig (Elt F) Λ₀ (thrV d L).2) α}
    {A : c → Prog (TpuEff nD τ sig (Elt F) Λ₀ (thrV d L).2) α} {Q : α → sProp 𝕄} (P R : sProp 𝕄)
    (ht : ∀ h, P ⊢ iprop((R -∗ WP rest Q) -∗ WP (A h) Q)) (hf : ¬c → P ⊢ R) :
    P ⊢ iprop((R -∗ WP rest Q) -∗ WP (if h : c then A h else rest) Q) := by
  by_cases h : c
  · rw [dif_pos h]; exact ht h
  · rw [dif_neg h]
    iintro HP Hk
    iapply Hk
    iapply (hf h); iexact HP

/-- A guard in front of more program is a guard around it. -/
theorem bind_guard {c : Prop} [Decidable c] {E : Type → Type} {α β : Type} (A : c → Prog E α) (B : ¬c → Prog E α) (k : α → Prog E β) :
    (dite c A B >>= k) = dite c (fun h => A h >>= k) (fun h => B h >>= k) := by split <;> rfl

/-- The index block asked for at step `k`, if there is one. -/
theorem ask_of_lt {k : ℕ} (h : k + 1 < 4) :
    iprop((bigSep (home k) fun b => iBlk d L iv b) ∗ iFree d L (slotOf (k + 1)))
      ⊢ iprop((iBlk d L iv ⟨k + 1, h⟩ ∗ iFree d L (slotOf (k + 1))) ∗ bigSep (homeNext k) fun b => iBlk d L iv b) := by
  rw [bigSep_ins (home_next k h)]
  iintro ⟨⟨Hb, Hr⟩, Hf⟩
  isplitr [Hr]
  · isplitl [Hb]; · iexact Hb
    iexact Hf
  · iexact Hr

theorem inSlot_of_lt {k : ℕ} (h : k < 4) : inSlot d L iv k = iFlight d L iv (slotOf k) ⟨k, h⟩ := by unfold inSlot; rw [dif_pos h]
theorem inSlot_of_le {k : ℕ} (h : ¬ k < 4) : inSlot d L iv k = iFree d L (slotOf k) := by unfold inSlot; rw [dif_neg h]
theorem outSlot_of_lt {k : ℕ} (h : 1 ≤ k) (h' : k - 1 < 4) : outSlot d L tab iv k = oFlight d L tab iv (slotOf (k + 1)) ⟨k - 1, h'⟩ := by
  unfold outSlot; rw [dif_pos ⟨h, h'⟩]
theorem outSlot_zero : outSlot d L tab iv 0 = rFree d L (slotOf 1) := rfl

theorem owing_eq : (owing d L O W : sProp 𝕄) = iprop(∃ W', ⌜∀ p ∈ W', p ∈ W ∨ p.2 = none⌝ ∗ owes (thrV d L) O W') := rfl

theorem recorded_insert {W' : Waits sig (HIx 1)} (h : ∀ p ∈ W', p ∈ W ∨ p.2 = none) (sm : SemLoc sig) :
    ∀ p ∈ insert (sm, (none : HIx 1)) W', p ∈ W ∨ p.2 = none :=
  fun p hp => (Finset.mem_insert.mp hp).elim (fun e => e ▸ .inr rfl) (h p)

theorem owing_insert {W' : Waits sig (HIx 1)} (h : ∀ p ∈ W', p ∈ W ∨ p.2 = none) (sm : SemLoc sig) :
    (owes (thrV d L) O (insert (sm, none) W') : sProp 𝕄) ⊢ owing d L O W := by
  unfold owing
  iintro H
  iexists _; isplitr
  swap; · iexact H
  ipureintro; exact recorded_insert W h sm

/-! ## The step -/

set_option pp.maxSteps 400 in
set_option maxHeartbeats 1600000 in
theorem trip (hO : ∀ g, O g none = 0) (hiv : InRange iv) (k : Fin 4) :
    Inv d L tab iv g₀ q O W k (carried k)
      ⊢ WP (k0_t1_body L tabV (Memref.isWhole_whole _) idxV (Memref.isWhole_whole _) outV (Memref.isWhole_whole _) islotsV (Memref.isWhole_whole _)
          cc0_scoped1 rslotsV (Memref.isWhole_whole _) cc0_scoped3 cc0_scoped4 (tileWord L) (stepOf k) (carried k))
          fun acc => Inv d L tab iv g₀ q O W (k.val + 1) acc := by
  unfold k0_t1_body
  simp only [k0_part1_eq_skeleton, k0_part2_eq_skeleton]; unfold k0_part1_skel k0_part2_skel
  simp only [SparseCore.waitIndirectGather, Prog.lift, Prog.bind_op, Prog.bind_ret, Prog.pure_eq_ret, Prog.bind_assoc, ite_self]
  simp only [bind_guard, Prog.bind_op, Prog.bind_ret]
  rw [wp_assume_of _ _ _ _ (chk3_true k), wp_assume_of _ _ _ _ (chk2_true k), wp_assume_of _ _ _ _ (chk1_true L k)]
  unfold Inv
  iintro ⟨-, #Hlv, HW, Ht, Hz, Hin, Hif, Hrf, Hout, Hh, Ha, Hd⟩
  -- ask for the next index block
  iapply (wp_guard (F := F) d L iprop((bigSep (home k.val) fun b => iBlk d L iv b) ∗ iFree d L (slotOf (k.val + 1)))
    iprop(inSlot d L iv (k.val + 1) ∗ bigSep (homeNext k.val) fun b => iBlk d L iv b) ?ht1 ?hf1) $$ [Hh Hif]
  case ht1 =>
    intro h
    have hk : k.val + 1 < 4 := by have := (cond1_iff L k).mp h; omega
    iintro HP Hk
    ihave HP := (ask_of_lt d L iv hk) $$ HP
    icases HP with ⟨HP, Hr⟩
    iapply (wp_startIn d L iv (slotOf (k.val + 1)) ⟨k.val + 1, hk⟩ (off4_eq k (by omega)) (off5_eq L k (by omega)) (off6_eq k (by omega))) $$ HP
    iintro Hf
    iapply Hk
    isplitl [Hf]; · rw [inSlot_of_lt d L iv hk]; iexact Hf
    iexact Hr
  case hf1 =>
    intro h
    have hk : ¬ k.val + 1 < 4 := fun hk => h ((cond1_iff L k).mpr (by omega))
    rw [inSlot_of_le d L iv hk, home_last k.val hk k.isLt]
    iintro ⟨Hr, Hf⟩
    isplitl [Hf]; · iexact Hf
    iexact Hr
  · isplitl [Hh]; · iexact Hh
    iexact Hif
  iintro ⟨Hin', Hh⟩
  -- the block asked for a step ago
  ihave Hin := (Entails.of_eq (inSlot_of_lt d L iv k.isLt)) $$ Hin
  rw [dif_pos (cond2_true L k)]
  simp only [Prog.bind_assoc, Prog.bind_op, Prog.bind_ret]
  ihave HW := (Entails.of_eq (owing_eq d L O W)) $$ HW
  icases HW with ⟨%W₁, %hW₁, HO⟩
  iapply (wp_endIn d L iv (slotOf k.val) k (off7_eq k) (off9_eq k)) $$ [Hin HO]
  · isplitl [Hin]; · iexact Hin
    isplitl [HO]; · iexact HO
    iapply ((K (F := F)).mayWaits_none hO); iexact Hlv
  iintro ⟨⟨Hil, Hib⟩, Hiz, HO⟩
  ihave Hh := (Entails.of_eq (bigSep_ins (home_succ k) fun b => iBlk d L iv b).symm) $$ [Hib Hh]
  · isplitl [Hib]; · iexact Hib
    iexact Hh
  -- its rows
  icases Hrf with ⟨Hr, Hrz⟩
  iapply (wp_startGather d L tab iv (slotOf k.val) k q hiv (off10_eq k) (off11_eq k)) $$ [Ht Hr Hil Hz]
  · isplitl [Ht]; · iexact Ht
    isplitl [Hr]; · iexact Hr
    isplitl [Hil]; · iexact Hil
    iexact Hz
  iintro Hg
  iapply (wp_endGather d L tab iv (slotOf k.val) k q (off10_eq k)) $$ [Hg HO]
  · isplitl [Hg]; · iexact Hg
    isplitl [HO]; · iexact HO
    iapply ((K (F := F)).mayWaits_none hO); iexact Hlv
  iintro ⟨⟨Hr, Ht, ⟨%fi, -, Hil⟩⟩, Hz, HO⟩
  -- their copy out
  rw [dif_pos (cond5_true L k)]
  ihave Ha := (Entails.of_eq (bigSep_ins (ahead_eq k) fun b => oBlk d L b g₀)) $$ Ha
  icases Ha with ⟨Hob, Ha⟩
  iapply (wp_startOut d L tab iv (slotOf k.val) k (off12_eq k) (off13_eq L k) (off14_eq k) g₀) $$ [Hr Hob Hrz]
  · isplitl [Hr]; · iexact Hr
    isplitl [Hob]; · iexact Hob
    iexact Hrz
  iintro Hof
  ihave HW := (owing_insert d L O W (recorded_insert W hW₁ _) _) $$ HO
  -- the copy out of a step ago
  iapply (wp_guard (F := F) d L iprop(outSlot d L tab iv k.val ∗ owing d L O W ∗ levAts (K (F := F)).L (K (F := F)).lev ∗ bigSep (done k.val) fun b => oBlk d L b (gathered tab iv))
    iprop(rFree d L (slotOf (k.val + 1)) ∗ owing d L O W ∗ bigSep (done (k.val + 1)) fun b => oBlk d L b (gathered tab iv)) ?ht7 ?hf7) $$ [Hout HW Hd]
  case ht7 =>
    intro h
    have hk : 1 ≤ k.val := (cond7_iff L k).mp h
    have hk' : k.val - 1 < 4 := by omega
    iintro ⟨Ho, HW, #Hlv, Hd⟩ Hk
    ihave Ho := (Entails.of_eq (outSlot_of_lt d L tab iv hk hk')) $$ Ho
    ihave HW := (Entails.of_eq (owing_eq d L O W)) $$ HW
    icases HW with ⟨%W₂, %hW₂, HO⟩
    iapply (wp_endOut d L tab iv (slotOf (k.val + 1)) ⟨k.val - 1, hk'⟩ (off16_eq L k hk) (off17_eq k hk)) $$ [Ho HO]
    · isplitl [Ho]; · iexact Ho
      isplitl [HO]; · iexact HO
      iapply ((K (F := F)).mayWaits_none hO); iexact Hlv
    iintro ⟨⟨Hb, Hr⟩, Hz, HO⟩
    iapply Hk
    isplitl [Hr Hz]
    · isplitl [Hr]; · iexact Hr
      iexact Hz
    isplitl [HO]; · iapply (owing_insert d L O W hW₂ _); iexact HO
    iapply (Entails.of_eq (bigSep_ins (done_succ k.val hk hk') fun b => oBlk d L b (gathered tab iv)).symm)
    isplitl [Hb]; · iexact Hb
    iexact Hd
  case hf7 =>
    intro h
    have hk : k.val = 0 := Nat.eq_zero_of_not_pos fun h' => h ((cond7_iff L k).mpr h')
    rw [hk]
    iintro ⟨Ho, HW, -, Hd⟩
    isplitl [Ho]; · iapply (Entails.of_eq (outSlot_zero d L tab iv)); iexact Ho
    isplitl [HW]; · iexact HW
    iexact Hd
  · isplitl [Hout]; · iexact Hout
    isplitl [HW]; · iexact HW
    isplitr; · iexact Hlv
    iexact Hd
  iintro ⟨Hrf, HW, Hd⟩
  rw [wp_ret]
  imodintro
  isplitr; · ipureintro; exact next_eq L k
  isplitr; · iexact Hlv
  isplitl [HW]; · iexact HW
  isplitl [Ht]; · iexact Ht
  isplitl [Hz]; · iexact Hz
  isplitl [Hin']; · iexact Hin'
  isplitl [Hil Hiz]
  · rw [slotOf_add_two]
    isplitl [Hil]; · iexists _; iexact Hil
    iexact Hiz
  isplitl [Hrf]; · iexact Hrf
  isplitl [Hof]
  · iapply (Entails.of_eq ((outSlot_of_lt d L tab iv (k := k.val + 1) (by omega) (by omega)).trans (by rw [slotOf_add_two])).symm); iexact Hof
  isplitl [Hh]; · iexact Hh
  isplitl [Ha]; · iexact Ha
  iexact Hd

end Cert.Proof.Rows

end
-- ==== Proof.Tile.lean ====
/-
  One tile's task, from its share of the launch to its share of the result: the first index block asked for, the four
  steps of the pipeline, the last block out. Around them the tile's scratch buffers fall into their slots and its
  semaphores are named one by one.
-/
module

public import proofs.«01_k».proof.Proof.Trip

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## Scratch by slots -/

theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- A buffer cut into two disjoint parts that cover it: at some contents whole is each part at some contents. -/
theorem slots_split {ℓ : Loc nD τ sig} (R : Fin 2 → Finset (Idx ℓ)) (hd : ∀ s ∈ Finset.univ, ∀ s' ∈ Finset.univ, s ≠ s' → Disjoint (R s) (R s'))
    (hc : Finset.univ.biUnion R = Finset.univ) :
    (iprop(∃ f, ℓ ↦{fullShare} f) : sProp 𝕄) ⊢ iprop((∃ f, ℓ ↦[R 0]{fullShare} f) ∗ ∃ f, ℓ ↦[R 1]{fullShare} f) := by
  iintro ⟨%f, H⟩
  ihave H := (Entails.of_eq (show (ℓ ↦{fullShare} f : sProp 𝕄) = iprop((ℓ ↦[R 0]{fullShare} f) ∗ ℓ ↦[R 1]{fullShare} f) by
    rw [← bigSep_fin2 fun s => (ℓ ↦[R s]{fullShare} f : sProp 𝕄), ← pointsTo_biUnion Finset.univ R hd, hc])) $$ H
  icases H with ⟨H0, H1⟩
  isplitl [H0]; · iexists f; iexact H0
  iexists f; iexact H1
theorem slots_join {ℓ : Loc nD τ sig} (R : Fin 2 → Finset (Idx ℓ)) (hd : ∀ s ∈ Finset.univ, ∀ s' ∈ Finset.univ, s ≠ s' → Disjoint (R s) (R s'))
    (hc : Finset.univ.biUnion R = Finset.univ) :
    iprop((∃ f, ℓ ↦[R 0]{fullShare} f) ∗ ∃ f, ℓ ↦[R 1]{fullShare} f) ⊢ (iprop(∃ f, ℓ ↦{fullShare} f) : sProp 𝕄) := by
  iintro ⟨⟨%f, H0⟩, %g, H1⟩
  ihave H := (pointsTo_biUnion_join (ℓ := ℓ) (q := fullShare) (Val := Elt F) Finset.univ R ![f, g] f hd) $$ [H0 H1]
  · iapply (Entails.of_eq (bigSep_fin2 fun s => (ℓ ↦[R s]{fullShare} (![f, g] s) : sProp 𝕄)).symm)
    isplitl [H0]; · iexact H0
    iexact H1
  icases H with ⟨%h, -, H⟩
  rw [hc]
  iexists h; iexact H

abbrev islotsLoc : Loc nD τ sig := (thrV d L).loc cc0_scoped0
abbrev rslotsLoc : Loc nD τ sig := (thrV d L).loc cc0_scoped2

theorem islots_split : (iprop(∃ f, islotsLoc d L ↦{fullShare} f) : sProp 𝕄) ⊢ iprop((∃ f, iSlot (F := F) d L 0 f) ∗ ∃ f, iSlot (F := F) d L 1 f) := by
  unfold iSlot; rw [set_islot, set_islot]
  exact slots_split (ℓ := islotsLoc d L) (fun s => (isRect s).set) (fun _ _ _ _ h => Rect.part_disjoint isdiv h) (Rect.biUnion_part isdiv)
theorem islots_join : iprop((∃ f, iSlot (F := F) d L 0 f) ∗ ∃ f, iSlot (F := F) d L 1 f) ⊢ (iprop(∃ f, islotsLoc d L ↦{fullShare} f) : sProp 𝕄) := by
  unfold iSlot; rw [set_islot, set_islot]
  exact slots_join (ℓ := islotsLoc d L) (fun s => (isRect s).set) (fun _ _ _ _ h => Rect.part_disjoint isdiv h) (Rect.biUnion_part isdiv)
theorem rslots_split : (iprop(∃ f, rslotsLoc d L ↦{fullShare} f) : sProp 𝕄) ⊢ iprop((∃ f, rSlot (F := F) d L 0 f) ∗ ∃ f, rSlot (F := F) d L 1 f) := by
  unfold rSlot; rw [set_rslot, set_rslot]
  exact slots_split (ℓ := rslotsLoc d L) (fun s => (rsRect s).set) (fun _ _ _ _ h => Rect.part_disjoint rsdiv h) (Rect.biUnion_part rsdiv)
theorem rslots_join : iprop((∃ f, rSlot (F := F) d L 0 f) ∗ ∃ f, rSlot (F := F) d L 1 f) ⊢ (iprop(∃ f, rslotsLoc d L ↦{fullShare} f) : sProp 𝕄) := by
  unfold rSlot; rw [set_rslot, set_rslot]
  exact slots_join (ℓ := rslotsLoc d L) (fun s => (rsRect s).set) (fun _ _ _ _ h => Rect.part_disjoint rsdiv h) (Rect.biUnion_part rsdiv)

/-! ## The tile's own semaphores and buffers -/

abbrev cellAt (sm : DmaSem sig) : GSem nD τ sig := (thrV d L, SemLoc.dma sm)

/-- The semaphores of the tile other than the pipeline's five. -/
abbrev otherCells : Finset (GSem nD τ sig) :=
  (((((ownCells (thrV d L)).erase (cellAt d L (isem 0))).erase (cellAt d L (isem 1))).erase (cellAt d L (rsem 0))).erase (cellAt d L (rsem 1))).erase (cellAt d L gsem)

theorem mem_cell (sm : DmaSem sig) : cellAt d L sm ∈ ownCells (thrV d L) :=
  mem_ownCells.mpr ⟨rfl, by show (SemLoc.dma sm : SemLoc sig).isScoped .scVector = true; revert sm; decide⟩
theorem cell_ne {a b : DmaSem sig} (h : a ≠ b) : cellAt d L a ≠ cellAt d L b := fun e => h (by
  have := congrArg Prod.snd e
  exact SemLoc.dma.inj this)

theorem ownSems0_V :
    (ownSems0 (thrV d L) : sProp 𝕄)
      = iprop(zeroAt d L (isem 0) ∗ zeroAt d L (isem 1) ∗ zeroAt d L (rsem 0) ∗ zeroAt d L (rsem 1) ∗ zeroAt d L gsem
          ∗ bigSep (otherCells d L) fun g => semVal g 0) := by
  unfold SparseCore.Cfg.ownSems0
  have m1 := mem_cell d L (isem 0)
  have m2 := Finset.mem_erase.mpr ⟨cell_ne d L (show isem 1 ≠ isem 0 by decide), mem_cell d L (isem 1)⟩
  have m3 := Finset.mem_erase.mpr ⟨cell_ne d L (show rsem 0 ≠ isem 1 by decide), Finset.mem_erase.mpr ⟨cell_ne d L (show rsem 0 ≠ isem 0 by decide), mem_cell d L (rsem 0)⟩⟩
  have m4 := Finset.mem_erase.mpr ⟨cell_ne d L (show rsem 1 ≠ rsem 0 by decide), Finset.mem_erase.mpr ⟨cell_ne d L (show rsem 1 ≠ isem 1 by decide),
    Finset.mem_erase.mpr ⟨cell_ne d L (show rsem 1 ≠ isem 0 by decide), mem_cell d L (rsem 1)⟩⟩⟩
  have m5 := Finset.mem_erase.mpr ⟨cell_ne d L (show gsem ≠ rsem 1 by decide), Finset.mem_erase.mpr ⟨cell_ne d L (show gsem ≠ rsem 0 by decide),
    Finset.mem_erase.mpr ⟨cell_ne d L (show gsem ≠ isem 1 by decide), Finset.mem_erase.mpr ⟨cell_ne d L (show gsem ≠ isem 0 by decide), mem_cell d L gsem⟩⟩⟩⟩
  rw [SparseCore.bigSep_erase' m1, SparseCore.bigSep_erase' m2, SparseCore.bigSep_erase' m3, SparseCore.bigSep_erase' m4, SparseCore.bigSep_erase' m5]

/-- The buffers of the tile other than the pipeline's two. -/
abbrev otherBufs : Finset (DevRef τ sig) :=
  ((ownRefs (τ := τ) (.scVector (cV L) (jV L))).erase ((Proc.scVector (cV L) (jV L)).devRef cc0_scoped0)).erase ((Proc.scVector (cV L) (jV L)).devRef cc0_scoped2)

theorem ownBufs_V :
    (ownBufs (thrV d L) : sProp 𝕄)
      = iprop((∃ f, islotsLoc d L ↦{fullShare} f) ∗ (∃ f, rslotsLoc d L ↦{fullShare} f)
          ∗ bigSep (otherBufs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-! ## The arrays, as the tile addresses them -/

theorem set_tabAll : tabAll.view.set = Finset.univ :=
  Finset.eq_univ_of_forall fun x => (tabAll_emb x) ▸ View.emb_mem_set tabAll.view x

theorem tabPts_eq (q : PosShare TreeShare) (tab : S4096x128.Idx → Elt F .f32) : (tabPts d L tab q : sProp 𝕄) = tLoc d ↦{q} tab := by
  unfold tabPts; rw [set_tabAll]
theorem iBlk_eq (b : Fin 4) (iv : S1x49152.Idx → Elt F .i32) : (iBlk d L iv b : sProp 𝕄) = iLoc d ↦[iSet (blockOf L b)]{fullShare} iv := by
  unfold iBlk; rw [set_idxWin]
theorem oBlk_eq (b : Fin 4) (g : S49152x128.Idx → Elt F .f32) : (oBlk d L b g : sProp 𝕄) = oLoc d ↦[oSet (blockOf L b)]{fullShare} g := by
  unfold oBlk; rw [set_outWin]

/-- What a tile is handed, at output contents `g`: its share of the table, its blocks of the indices and of the output. -/
abbrev tileHas (tab : S4096x128.Idx → Elt F .f32) (iv : S1x49152.Idx → Elt F .i32) (q : PosShare TreeShare) (g : S49152x128.Idx → Elt F .f32) : sProp 𝕄 :=
  iprop((tLoc d ↦{q} tab) ∗ (bigSep Finset.univ fun b : Fin 4 => iLoc d ↦[iSet (blockOf L b)]{fullShare} iv)
    ∗ bigSep Finset.univ fun b : Fin 4 => oLoc d ↦[oSet (blockOf L b)]{fullShare} g)

/-! ## The task -/

variable [FloatOps F]
variable (tab : S4096x128.Idx → Elt F .f32) (iv : S1x49152.Idx → Elt F .i32) (g₀ : S49152x128.Idx → Elt F .f32) (q : PosShare TreeShare)
variable (O : CellTallies nD τ sig (HIx 1)) (W : Waits sig (HIx 1))

theorem home_zero : (Finset.univ : Finset (Fin 4)) = insert 0 (home 0) ∧ (0 : Fin 4) ∉ home 0 := by decide
theorem ahead_zero : ahead 0 = Finset.univ := by decide
theorem done_zero : done 0 = ∅ := by decide
theorem home_four : home 4 = Finset.univ := by decide
theorem done_four : (Finset.univ : Finset (Fin 4)) = insert 3 (done 4) ∧ (3 : Fin 4) ∉ done 4 := by decide

theorem inv_acc (k : ℕ) (acc : BitVec 32 × BitVec 32 × BitVec 32 × BitVec 32 × BitVec 32) :
    Inv (F := F) d L tab iv g₀ q O W k acc ⊢ iprop(⌜acc = carried k⌝ ∗ Inv (F := F) d L tab iv g₀ q O W k (carried k)) := by
  unfold Inv
  iintro ⟨%h, H⟩
  isplitr; · ipureintro; exact h
  isplitr; · ipureintro; rfl
  iexact H

/-- The first step's state: block 0 asked for, nothing else begun. -/
theorem inv_zero :
    iprop(levAts (K (F := F)).L (K (F := F)).lev ∗ owes (thrV d L) O W ∗ tabPts d L tab q ∗ zeroAt d L gsem
        ∗ iFlight d L iv 0 0 ∗ iFree d L 1 ∗ rFree d L 0 ∗ rFree d L 1
        ∗ (bigSep (home 0) fun b => iBlk d L iv b) ∗ bigSep Finset.univ fun b => oBlk d L b g₀)
      ⊢ Inv (F := F) d L tab iv g₀ q O W 0 (carried 0) := by
  unfold Inv owing
  iintro ⟨Hlv, HO, Ht, Hz, Hf, Hi1, Hr0, Hr1, Hi, Ho⟩
  isplitr; · ipureintro; rfl
  isplitl [Hlv]; · iexact Hlv
  isplitl [HO]
  · iexists W; isplitr
    · ipureintro; exact fun p hp => .inl hp
    · iexact HO
  isplitl [Ht]; · iexact Ht
  isplitl [Hz]; · iexact Hz
  isplitl [Hf]; · iapply (Entails.of_eq (inSlot_of_lt d L iv (k := 0) (by decide)).symm); iexact Hf
  isplitl [Hi1]; · iexact Hi1
  isplitl [Hr0]; · iexact Hr0
  isplitl [Hr1]; · iapply (Entails.of_eq (outSlot_zero d L tab iv).symm); iexact Hr1
  isplitl [Hi]; · iexact Hi
  isplitl [Ho]; · rw [ahead_zero]; iexact Ho
  rw [done_zero, bigSep_empty]; iempintro

/-- The state after the last step: the last block on its way out of row slot 1, everything else back. -/
theorem inv_four (acc : BitVec 32 × BitVec 32 × BitVec 32 × BitVec 32 × BitVec 32) :
    Inv (F := F) d L tab iv g₀ q O W 4 acc
      ⊢ iprop(⌜acc = carried 4⌝ ∗ owing d L O W ∗ tabPts d L tab q ∗ zeroAt d L gsem
        ∗ iFree d L 0 ∗ iFree d L 1 ∗ rFree d L 0 ∗ oFlight d L tab iv 1 3
        ∗ (bigSep Finset.univ fun b => iBlk d L iv b) ∗ bigSep (done 4) fun b => oBlk d L b (gathered tab iv)) := by
  unfold Inv
  rw [home_four]
  iintro ⟨%h, -, HW, Ht, Hz, Hi0, Hi1, Hr0, Ho, Hi, -, Hd⟩
  isplitr; · ipureintro; exact h
  isplitl [HW]; · iexact HW
  isplitl [Ht]; · iexact Ht
  isplitl [Hz]; · iexact Hz
  isplitl [Hi0]; · iapply (Entails.of_eq (inSlot_of_le d L iv (k := 4) (by decide))); iexact Hi0
  isplitl [Hi1]; · iexact Hi1
  isplitl [Hr0]; · iexact Hr0
  isplitl [Ho]; · iapply (Entails.of_eq (outSlot_of_lt d L tab iv (k := 4) (by decide) (by decide))); iexact Ho
  isplitl [Hi]; · iexact Hi
  iexact Hd

set_option pp.maxSteps 400 in
set_option maxHeartbeats 1600000 in
theorem tile_body (hF : (K (F := F)).Facts) (hiv : InRange iv) (hO : ∀ g, O g none = 0) :
    iprop(levAts (K (F := F)).L (K (F := F)).lev ∗ emp ∗ tileHas d L tab iv q g₀
        ∗ scopedBufs (thrV d L) ∗ scopedSems0 (thrV d L) ∗ owes (thrV d L) O W)
      ⊢ wp frame (wpE (defs₀ (F := F)) 𝒱₀ (thrV d L) none) Set.univ
          (cc0_gather_kernel L tabV (Memref.isWhole_whole _) idxV (Memref.isWhole_whole _) outV (Memref.isWhole_whole _) islotsV (Memref.isWhole_whole _)
            cc0_scoped1 rslotsV (Memref.isWhole_whole _) cc0_scoped3 cc0_scoped4)
          fun _ => iprop(tileHas d L tab iv q (gathered tab iv)
            ∗ scopedBufs (thrV d L) ∗ scopedSems0 (thrV d L)
            ∗ ∃ W', ⌜∀ p ∈ W', p ∈ W ∨ p.2 = none⌝ ∗ owes (thrV d L) O W') := by
  simp only [cc0_gather_kernel_eq_skeleton]; unfold cc0_gather_kernel_skel
  simp only [k0_part3_eq_skeleton, k0_part4_eq_skeleton]; unfold k0_part3_skel k0_part4_skel
  simp only [Prog.lift, Prog.bind_op, Prog.bind_ret, Prog.pure_eq_ret, Prog.bind_assoc]
  unfold tileHas
  simp only [← tabPts_eq d L, ← iBlk_eq d L, ← oBlk_eq d L]
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨Hsl, Hrs, Hbufs⟩, ⟨Hz0, Hz1, Hz2, Hz3, Hz4, Hsems⟩, HO⟩
  ihave Hsl := (islots_split d L) $$ Hsl
  icases Hsl with ⟨Hs0, Hs1⟩
  ihave Hrs := (rslots_split d L) $$ Hrs
  icases Hrs with ⟨Hr0, Hr1⟩
  ihave Hi := (Entails.of_eq (bigSep_ins home_zero fun b => iBlk d L iv b)) $$ Hi
  icases Hi with ⟨Hib, Hi⟩
  iapply (wp_startIn d L iv 0 0 k0_off1_eq ((k0_off2_eq L).trans rfl) k0_off3_eq) $$ [Hib Hs0 Hz0]
  · isplitl [Hib]; · iexact Hib
    isplitl [Hs0]; · iexact Hs0
    iexact Hz0
  iintro Hf
  simp only [Prog.bind, Prog.pure_eq_ret, Prog.bind_ret, Prog.bind_assoc]
  sl_for (Inv (F := F) d L tab iv g₀ q O W) $$ [HO Ht Hz4 Hf Hs1 Hz1 Hr0 Hz2 Hr1 Hz3 Hi Ho]
  · intro k acc
    refine (inv_acc d L tab iv g₀ q O W k.val acc).trans ?_
    iintro ⟨%hacc, H⟩
    subst hacc
    iapply (show Inv (F := F) d L tab iv g₀ q O W k.val (carried k.val) ⊢ _ from trip d L tab iv g₀ q O W hO hiv (k.cast trips_eq)) $$ H
  · iapply (inv_zero d L tab iv g₀ q O W)
    isplitr; · iexact Hlv
    isplitl [HO]; · iexact HO
    isplitl [Ht]; · iexact Ht
    isplitl [Hz4]; · iexact Hz4
    isplitl [Hf]; · iexact Hf
    isplitl [Hs1 Hz1]
    · isplitl [Hs1]; · iexact Hs1
      iexact Hz1
    isplitl [Hr0 Hz2]
    · isplitl [Hr0]; · iexact Hr0
      iexact Hz2
    isplitl [Hr1 Hz3]
    · isplitl [Hr1]; · iexact Hr1
      iexact Hz3
    isplitl [Hi]; · iexact Hi
    iexact Ho
  iintro %acc H
  rw [show Scf.trips k0_t1_loop.lb k0_t1_loop.ub k0_t1_loop.st = 4 from trips_eq]
  ihave H := (inv_four d L tab iv g₀ q O W acc) $$ H
  icases H with ⟨%hacc, HW, Ht, Hz4, ⟨Hs0, Hz0⟩, ⟨Hs1, Hz1⟩, ⟨Hr0, Hz2⟩, Hf, Hi, Hd⟩
  subst hacc
  sl_respell []
  simp only [Prog.lift, Prog.bind_op, Prog.bind_ret, Prog.pure_eq_ret, Prog.bind_assoc]
  rw [wp_assume_of _ _ _ _ (chk5_true L), wp_assume_of _ _ _ _ chk4_true]
  ihave HW := (Entails.of_eq (owing_eq d L O W)) $$ HW
  icases HW with ⟨%W₁, %hW₁, HO⟩
  iapply (wp_endOut d L tab iv 1 3 (off19_eq L) off20_eq) $$ [Hf HO]
  · isplitl [Hf]; · iexact Hf
    isplitl [HO]; · iexact HO
    iapply ((K (F := F)).mayWaits_none hO); iexact Hlv
  iintro ⟨⟨Hb, Hr1⟩, Hz3, HO⟩
  rw [wp_ret]
  imodintro
  isplitl [Ht Hi Hb Hd]
  · isplitl [Ht]; · iexact Ht
    isplitl [Hi]; · iexact Hi
    iapply (Entails.of_eq (bigSep_ins done_four fun b => oBlk d L b (gathered tab iv)).symm)
    isplitl [Hb]; · iexact Hb
    iexact Hd
  isplitl [Hs0 Hs1 Hr0 Hr1 Hbufs]
  · isplitl [Hs0 Hs1]
    · iapply (islots_join d L)
      isplitl [Hs0]; · iexact Hs0
      iexact Hs1
    isplitl [Hr0 Hr1]
    · iapply (rslots_join d L)
      isplitl [Hr0]; · iexact Hr0
      iexact Hr1
    iexact Hbufs
  isplitl [Hz0 Hz1 Hz2 Hz3 Hz4 Hsems]
  · isplitl [Hz0]; · iexact Hz0
    isplitl [Hz1]; · iexact Hz1
    isplitl [Hz2]; · iexact Hz2
    isplitl [Hz3]; · iexact Hz3
    isplitl [Hz4]; · iexact Hz4
    iexact Hsems
  iexists _; isplitr
  swap; · iexact HO
  ipureintro; exact recorded_insert W hW₁ _

end Cert.Proof.Rows

end
-- ==== Proof.Split.lean ====
/-
  The launch, cut into tiles. What @main hands to the call is the table, the flat index array and the output, whole. Each
  core takes half of the table's share and its 64 blocks of the two arrays; each of its tiles a sixteenth of that share
  and four blocks. After the call the same pieces come back, the output's at the wanted rows.
-/
module

public import proofs.«01_k».proof.Proof.Tile

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Blocks of a core, blocks of a tile -/

/-- Tile `i` of core `c`, as grid coordinates. -/
def coordsV (c : Fin (grid0.bound 0)) (i : Fin (grid0.bound 1)) : grid0.Coords :=
  fun | 0 => c | 1 => i | ⟨_ + 2, h⟩ => absurd h (Nat.not_lt.2 (Nat.le_add_left _ _))

/-- Tile `i` of core `c`. -/
abbrev tileAt (c : Fin 2) (i : Fin 16) : grid0.Coords := coordsV c i

/-- Block `b` of tile `i` of core `c`, among the 128. -/
abbrev blk (x : Fin 2 × Fin 16 × Fin 4) : Fin 128 := blockOf (tileAt x.1 x.2.1) x.2.2

theorem blk_val (x : Fin 2 × Fin 16 × Fin 4) : (blk x).val = 64 * x.1.val + 4 * x.2.1.val + x.2.2.val := rfl

/-- Every block belongs to exactly one tile. -/
def blkEquiv : Fin 2 × Fin 16 × Fin 4 ≃ Fin 128 where
  toFun := blk
  invFun p := (⟨p.val / 64, by omega⟩, ⟨p.val / 4 % 16, by omega⟩, ⟨p.val % 4, by omega⟩)
  left_inv x := by
    have h := blk_val x
    refine Prod.ext (Fin.ext ?_) (Prod.ext (Fin.ext ?_) (Fin.ext ?_)) <;> simp only [h] <;> omega
  right_inv p := Fin.ext (by rw [blk_val]; dsimp only; omega)

/-- Over the 128 blocks is over the cores, their tiles and the tiles' blocks. -/
theorem bigSep_blocks (Φ : Fin 128 → sProp 𝕄) :
    bigSep Finset.univ Φ = bigSep Finset.univ fun c : Fin 2 => bigSep Finset.univ fun i : Fin 16 => bigSep Finset.univ fun b : Fin 4 =>
      Φ (blockOf (tileAt c i) b) := by
  rw [bigSep_univ_equiv blkEquiv Φ, ← Finset.univ_product_univ, SparseCore.bigSep_product]
  refine bigSep_congr fun c _ => ?_
  rw [← Finset.univ_product_univ, SparseCore.bigSep_product]
  rfl

variable (d : Dev nD)

theorem iPts_blocks (f : Buf (Elt F) (iLoc d)) :
    (iLoc d ↦{fullShare} f : sProp 𝕄) = bigSep Finset.univ fun p : Fin 128 => iLoc d ↦[iSet p]{fullShare} f := by
  rw [← pointsTo_biUnion Finset.univ (ℓ := iLoc d) iSet (fun _ _ _ _ h => Rect.part_disjoint idiv h), Rect.biUnion_part idiv]
theorem oPts_blocks (f : Buf (Elt F) (oLoc d)) :
    (oLoc d ↦{fullShare} f : sProp 𝕄) = bigSep Finset.univ fun p : Fin 128 => oLoc d ↦[oSet p]{fullShare} f := by
  rw [← pointsTo_biUnion Finset.univ (ℓ := oLoc d) oSet (fun _ _ _ _ h => Rect.part_disjoint odiv h), Rect.biUnion_part odiv]

/-! ## What a core holds -/

variable (tab : S4096x128.Idx → Elt F .f32) (iv : S1x49152.Idx → Elt F .i32)

/-- Core `c`'s part: half of the table's share, and its tiles' blocks of the index array and of the output. -/
abbrev coreHas (c : Fin 2) (g : Buf (Elt F) (oLoc d)) : sProp 𝕄 :=
  iprop((tLoc d ↦{coreShare c} tab)
    ∗ (bigSep Finset.univ fun i : Fin 16 => bigSep Finset.univ fun b : Fin 4 => iLoc d ↦[iSet (blockOf (tileAt c i) b)]{fullShare} iv)
    ∗ bigSep Finset.univ fun i : Fin 16 => bigSep Finset.univ fun b : Fin 4 => oLoc d ↦[oSet (blockOf (tileAt c i) b)]{fullShare} g)

/-- A core's part is its tiles' parts. -/
theorem coreHas_tiles (c : Fin 2) (g : Buf (Elt F) (oLoc d)) :
    coreHas d tab iv c g = bigSep Finset.univ fun i : Fin 16 => tileHas d (tileAt c i) tab iv (tileShare c i) g := by
  rw [bigSep_sep', bigSep_sep']
  exact congrArg (fun A : sProp 𝕄 => iprop(A ∗ _)) (pointsTo_pieces_of (ℓ := tLoc d) Finset.univ tab 4 (coreShare c))

/-- The table, the index array and the output. -/
abbrev allHas (g : Buf (Elt F) (oLoc d)) : sProp 𝕄 :=
  iprop((tLoc d ↦{fullShare} tab) ∗ (iLoc d ↦{fullShare} iv) ∗ oLoc d ↦{fullShare} g)

/-- The whole is the two cores' parts. -/
theorem allHas_cores (g : Buf (Elt F) (oLoc d)) :
    allHas d tab iv g = bigSep Finset.univ fun c : Fin 2 => coreHas d tab iv c g := by
  rw [bigSep_sep', bigSep_sep', ← bigSep_blocks (fun p => (iLoc d ↦[iSet p]{fullShare} iv : sProp 𝕄)),
    ← bigSep_blocks (fun p => (oLoc d ↦[oSet p]{fullShare} g : sProp 𝕄)), ← iPts_blocks, ← oPts_blocks]
  exact congrArg (fun A : sProp 𝕄 => iprop(A ∗ _)) (pointsTo_pieces_of (ℓ := tLoc d) Finset.univ tab 1 fullShare)

/-! ## The call's payload -/

section Payload

variable (m : (ℓ : Loc nD τ sig) → Buf (Elt F) ℓ) (ivs : Dev nD → S1x49152.Idx → Elt F .i32)

/-- The output after the call. -/
abbrev result (d : Dev nD) : S49152x128.Idx → Elt F .f32 := gathered (m (tLoc d)) (ivs d)

/-- What passes at the call's four hand-overs: to a core and back, to a tile and back. The index array at `ivs d`, the
    output first as the launch left it and then at the gathered rows. -/
def P : (K (F := F)).Pay (nD := nD) (Val := Elt F) (Name := ℕ) (U := UU) where
  st := fun q d c => match q with | 0 => coreHas d (m (tLoc d)) (ivs d) (Fin.cast nCore_zero c) (m (oLoc d))
  dn := fun q d c => match q with | 0 => coreHas d (m (tLoc d)) (ivs d) (Fin.cast nCore_zero c) (result m ivs d)
  go := fun q d c i => match q with
    | 0 => tileHas d (tileAt (Fin.cast nCore_zero c) (Fin.cast nSub_zero i)) (m (tLoc d)) (ivs d)
        (tileShare (Fin.cast nCore_zero c) (Fin.cast nSub_zero i)) (m (oLoc d))
  td := fun q d c i => match q with
    | 0 => tileHas d (tileAt (Fin.cast nCore_zero c) (Fin.cast nSub_zero i)) (m (tLoc d)) (ivs d)
        (tileShare (Fin.cast nCore_zero c) (Fin.cast nSub_zero i)) (result m ivs d)
  x := fun _ _ => iprop(emp)

instance P_storable : (P m ivs).IsStorable where
  st := fun q d c => match q with
    | 0 => (inferInstance : BI.Storable (upEmb : UEmb _ 𝕄) (coreHas d (m (tLoc d)) (ivs d) (Fin.cast nCore_zero c) (m (oLoc d))))
  dn := fun q d c => match q with
    | 0 => (inferInstance : BI.Storable (upEmb : UEmb _ 𝕄) (coreHas d (m (tLoc d)) (ivs d) (Fin.cast nCore_zero c) (result m ivs d)))
  go := fun q d c i => match q with
    | 0 => (inferInstance : BI.Storable (upEmb : UEmb _ 𝕄)
        (tileHas d (tileAt (Fin.cast nCore_zero c) (Fin.cast nSub_zero i)) (m (tLoc d)) (ivs d)
          (tileShare (Fin.cast nCore_zero c) (Fin.cast nSub_zero i)) (m (oLoc d))))
  td := fun q d c i => match q with
    | 0 => (inferInstance : BI.Storable (upEmb : UEmb _ 𝕄)
        (tileHas d (tileAt (Fin.cast nCore_zero c) (Fin.cast nSub_zero i)) (m (tLoc d)) (ivs d)
          (tileShare (Fin.cast nCore_zero c) (Fin.cast nSub_zero i)) (result m ivs d)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m ivs).st 0 d c) = allHas d (m (tLoc d)) (ivs d) (m (oLoc d)) :=
  (bigSep_cores fun c => coreHas d (m (tLoc d)) (ivs d) c (m (oLoc d))).trans (allHas_cores d _ _ _).symm
theorem dn0_eq (d : Dev nD) :
    (bigSep Finset.univ fun c : Fin ((K (F := F)).nCore 0) => (P m ivs).dn 0 d c) = allHas d (m (tLoc d)) (ivs d) (result m ivs d) :=
  (bigSep_cores fun c => coreHas d (m (tLoc d)) (ivs d) c (result m ivs d)).trans (allHas_cores d _ _ _).symm

/-- A core's part falls into its tiles' parts, and comes together again after them. -/
theorem vecSplit : (K (F := F)).VecSplit' (P m ivs) 0 := by
  intro d c
  show coreHas d (m (tLoc d)) (ivs d) (Fin.cast nCore_zero c) (m (oLoc d)) ⊢ |={Set.univ}=> iprop(
      (bigSep Finset.univ fun i : Fin ((K (F := F)).nSub 0) =>
        tileHas d (tileAt (Fin.cast nCore_zero c) (Fin.cast nSub_zero i)) (m (tLoc d)) (ivs d)
          (tileShare (Fin.cast nCore_zero c) (Fin.cast nSub_zero i)) (m (oLoc d)))
      ∗ ((bigSep Finset.univ fun i : Fin ((K (F := F)).nSub 0) =>
          tileHas d (tileAt (Fin.cast nCore_zero c) (Fin.cast nSub_zero i)) (m (tLoc d)) (ivs d)
            (tileShare (Fin.cast nCore_zero c) (Fin.cast nSub_zero i)) (result m ivs d))
          -∗ coreHas d (m (tLoc d)) (ivs d) (Fin.cast nCore_zero c) (result m ivs d)))
  rw [bigSep_tasks (F := F) (fun i => tileHas d (tileAt (Fin.cast nCore_zero c) i) (m (tLoc d)) (ivs d) (tileShare (Fin.cast nCore_zero c) i) (m (oLoc d))),
    bigSep_tasks (F := F) (fun i => tileHas d (tileAt (Fin.cast nCore_zero c) i) (m (tLoc d)) (ivs d) (tileShare (Fin.cast nCore_zero c) i) (result m ivs d)),
    ← coreHas_tiles, ← coreHas_tiles]
  iintro H; imodintro
  isplitl [H]; · iexact H
  iintro H; iexact H

/-! ## The task's obligation -/

variable [FloatOps F]

theorem defs₀_vector (c : Fin τ.nSC) (s : Fin τ.nSub) :
    defs₀ (F := F) (.scVector c s) 0 ()
      = SparseCore.onTile hcore0 hsub0 (fun c s => cc0_gather_kernel (coordsV c s)
          tabV (Memref.isWhole_whole _) idxV (Memref.isWhole_whole _) outV (Memref.isWhole_whole _)
          islotsV (Memref.isWhole_whole _) cc0_scoped1 rslotsV (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hiv : ∀ d, InRange (ivs d)) : (K (F := F)).TileObl (D (F := F)) 𝒱 (P m ivs) v₀ 0 := by
  intro d c i O W hO _ _
  simp only [show (P m ivs).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (tLoc d)) (ivs d) (m (oLoc d))
    (tileShare (Fin.cast nCore_zero c) (Fin.cast nSub_zero i)) O W hF (hiv d) hO).trans (wp_mono frame _ _ fun _ => obl_post)

end Payload

end Cert.Proof.Rows

end
-- ==== Proof.Run.lean ====
/-
  The program's run. @main flattens the index array with two host operations, then makes the call; what it leaves is the
  two arguments as they were and the output at the gathered rows.
-/
module

public import proofs.«01_k».proof.Proof.Split

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The two host operations -/

/-- The index array, transposed and laid flat, as @main's two host operations compute it. -/
def flatIdx (j : S16384x3.Idx → Elt F .i32) : S1x49152.Idx → Elt F .i32 :=
  shapeCast S1x49152 (transpose S3x16384 [1, 0] j transposes_S16384x3_S3x16384_1_0) shapeCasts_S3x16384_S1x49152

variable [FloatOps F]

abbrev opT : HloOp τ sig (Elt F) :=
  StableHlo.unary main_arg1 main_v0 ((transpose S3x16384 [1, 0] · transposes_S16384x3_S3x16384_1_0) : (⟨S16384x3, .i32⟩ : BufTy).Contents (Elt F) → (⟨S3x16384, .i32⟩ : BufTy).Contents (Elt F))
abbrev opR : HloOp τ sig (Elt F) :=
  StableHlo.reshape main_v0 main_v1 (rfl : (.i32 : EltTy) = .i32) shapeCasts_S3x16384_S1x49152

abbrev refOf (b : Ref sig .tc) : DevRef τ sig := Proc.devRef .tc b

/-- The buffers the host operations work on. -/
abbrev hostBufs : Finset (DevRef τ sig) := {refOf main_arg1, refOf main_v0, refOf main_v1}

theorem opT_bufs : (opT (F := F)).bufs ⊆ hostBufs := by
  show ({refOf main_arg1} ∪ {refOf main_v0} : Finset (DevRef τ sig)) ⊆ hostBufs; decide
theorem opR_bufs : (opR (F := F)).bufs ⊆ hostBufs := by
  show ({refOf main_v0} ∪ {refOf main_v1} : Finset (DevRef τ sig)) ⊆ hostBufs; decide

/-- The buffers after both. -/
abbrev hostAfter (W : Valuation τ sig (Elt F)) : Valuation τ sig (Elt F) := (opR (F := F)).result ((opT (F := F)).result W)

theorem hostAfter_arg1 (W : Valuation τ sig (Elt F)) : hostAfter W (refOf main_arg1) = W (refOf main_arg1) := by
  unfold hostAfter opR opT
  rw [StableHlo.reshape_result_ne _ _ _ _ _ _ _ (by decide), StableHlo.unary_result_ne _ _ _ _ _ _ (by decide)]
theorem hostAfter_v1 (W : Valuation τ sig (Elt F)) : hostAfter W (refOf main_v1) = flatIdx (W (refOf main_arg1)) := by
  unfold hostAfter opR opT
  rw [StableHlo.reshape_result, StableHlo.unary_result]
  rfl

omit [FloatOps F] in
theorem held_host (d : Dev nD) (W : Valuation τ sig (Elt F)) :
    (StableHlo.held (SparseCore.T d) hostBufs W : sProp 𝕄)
      = iprop((jLoc d ↦{fullShare} W (refOf main_arg1)) ∗ (uLoc d ↦{fullShare} W (refOf main_v0)) ∗ iLoc d ↦{fullShare} W (refOf main_v1)) := by
  unfold StableHlo.held hostBufs
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((tLoc d ↦{fullShare} W main_arg0) ∗ (jLoc d ↦{fullShare} W main_arg1) ∗ (uLoc d ↦{fullShare} W main_v0)
      ∗ (iLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-! ## The launch's ghost state -/

variable (m : (ℓ : Loc nD τ sig) → Buf (Elt F) ℓ) (ρ : Dev nD → PrngReg)

/-- The flat index array the call reads, on device `d`. -/
abbrev ivs (d : Dev nD) : S1x49152.Idx → Elt F .i32 := flatIdx (m (jLoc d))

def u₀ : UU := (initOf (K (F := F)).hsCells (K (F := F)).hsToks, 1)

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m (ivs m)).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => (iprop(emp) : sProp 𝕄)) = iprop(emp) from bigSep_emp_const _]; iempintro
  rw [show (bigSep Finset.univ fun thr : Thread nD τ => bigSep Finset.univ fun q : Fin 1 => (P (F := F) m (ivs m)).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

/-! ## @main -/

/-- What the run leaves on device `d`: the table and the indices as they were, the output at the gathered rows. -/
abbrev FIN (d : Dev nD) : sProp 𝕄 :=
  iprop((tLoc d ↦{fullShare} m (tLoc d)) ∗ (jLoc d ↦{fullShare} m (jLoc d)) ∗ oLoc d ↦{fullShare} result m (ivs m) d)

theorem hmain (κ : GSem nD τ sig → ℕ) (d : Dev nD) :
    iprop((K (F := F)).ctx EH (P m (ivs m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Hj, Hu, Hi, Ho⟩, Hts, -⟩, -⟩
  ihave Hh := (Entails.of_eq (held_host (F := F) d (fun b => m (d, b))).symm) $$ [Hj Hu Hi]
  · isplitl [Hj]; · iexact Hj
    isplitl [Hu]; · iexact Hu
    iexact Hi
  iapply (StableHlo.wp_hlo_within 𝒱 (SparseCore.T d) none Set.univ (op := opT (F := F)) (opT_bufs (F := F))) $$ [Hb Hh]
  · isplitl [Hb]; · iexact Hb
    iexact Hh
  iintro ⟨Hb, Hh⟩
  rw [wp_ret]; imodintro
  iapply (StableHlo.wp_hlo_within 𝒱 (SparseCore.T d) none Set.univ (op := opR (F := F)) (opR_bufs (F := F))) $$ [Hb Hh]
  · isplitl [Hb]; · iexact Hb
    iexact Hh
  iintro ⟨Hb, Hh⟩
  rw [wp_ret]; imodintro
  ihave Hh := (Entails.of_eq ((held_host (F := F) d (hostAfter fun b => m (d, b))).trans (by rw [hostAfter_arg1, hostAfter_v1]))) $$ Hh
  icases Hh with ⟨Hj, -, Hi⟩
  iapply ((K (F := F)).wp_run (D (F := F)) 𝒱 (EH := EH) (P := P m (ivs m)) κ d 0) $$ [Hst Ht Hj Hi Ho Hb Hts]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn := (Entails.of_eq (dn0_eq m (ivs m) d)) $$ Hdn
  icases Hdn with ⟨Ht, -, Ho⟩
  imodintro
  isplitl [Hst]; · iexact Hst
  isplitr [Hb Hts]
  · isplitl [Ht]; · iexact Ht
    isplitl [Hj]; · iexact Hj
    iexact Ho
  isplitl [Hb] <;> iassumption

/-! ## The final memory -/

def fq (d : Dev nD) (s' : Phys nD τ sig (Elt F)) : Prop :=
  s'.mem.mem (tLoc d) = m (tLoc d) ∧ s'.mem.mem (jLoc d) = m (jLoc d) ∧ s'.mem.mem (oLoc d) = result m (ivs m) d

set_option maxRecDepth 16384 in
theorem hfin (d : Dev nD) (s' : Phys nD τ sig (Elt F)) : iprop(FIN m d ∗ SI s') ⊢ (⌜fq m d s'⌝ : sProp 𝕄) := by
  iintro ⟨⟨Ht, Hj, Ho⟩, HSI⟩
  ihave H := (persistent_entails_right (SI_pointsTo_agree (st := s') (ℓ := tLoc d) (I := Finset.univ) (q := fullShare) (f := m (tLoc d)))) $$ [HSI Ht]
  · isplitl [HSI] <;> iassumption
  icases H with ⟨%h1, HSI, -⟩
  ihave H := (persistent_entails_right (SI_pointsTo_agree (st := s') (ℓ := jLoc d) (I := Finset.univ) (q := fullShare) (f := m (jLoc d)))) $$ [HSI Hj]
  · isplitl [HSI] <;> iassumption
  icases H with ⟨%h2, HSI, -⟩
  ihave H := (SI_pointsTo_agree (st := s') (ℓ := oLoc d) (I := Finset.univ) (q := fullShare) (f := result m (ivs m) d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (tLoc c) = m (tLoc c) ∧ r.2.mem (jLoc c) = m (jLoc c) ∧ r.2.mem (oLoc c) = result m (ivs m) c) ∧ r.2.sem = fun _ => 0

/-- The run, from any launch memory whose indices number rows of the table. -/
theorem run_main [∀ e, Nonempty (Elt F e)] (hiv : ∀ d, InRange (ivs m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (ivs m)) (A := ∅) facts v₀
    (fun q hq => match q with | 0 => nomatch hq)
    (fun q _ => match q with | 0 => tileObl m (ivs m) facts hiv)
    (fun q _ => match q with | 0 => SparseCore.Cfg.VecSplit.of_plain (vecSplit m (ivs m)))
    m ρ main (fun _ => iprop(emp)) (FIN m) (u₀ (F := F)) (sep_elim_left.trans (hu₀ m)) (hmain m ρ) (fq m) (hfin m) (QC m) (fun _ h hz => ⟨h, hz⟩)

end Cert.Proof.Rows

end
-- ==== Proof.RefValue.lean ====
/-
  What the reference computes. `jnp.take` wraps negative indices, gathers, and puts a NaN in every row whose index is out
  of range; with every index in range the wrap and the mask change nothing, so after the transpose and the flattening,
  row `r` is the table's row numbered by word `r` of the flat index array: the rows the kernel writes.
-/
module

public import proofs.«01_k».proof.Proof.Run
public import proofs.«01_k».proof.Proof.Gen.ReferenceIdeal.Run
public import Idealize.ShloMosaic.Lib.ReduceAll
public import Idealize.ShloMosaic.Lib.ValueIdxCore
public import Idealize.ShloMosaic.Lib.Pipeline.Value

@[expose] public section

noncomputable section

namespace Cert.Proof.Rows

open Cert.ReferenceIdeal Cert.ReferenceIdeal.Gen

open Idealize.ShloMosaic Idealize.ShloMosaic.Pipeline
open Idealize.ShloMosaic.ValueIdx (ix2 idx2_lt0 idx2_lt1 takeIdx)

/-! ## Indices in range -/

/-- Every index numbers a row of the table. -/
def IdxOk (j : IVec S16384x3 32) : Prop := ∀ y, (j y).toNat < 4096

theorem inRange_flat {F : FTy → Type} {j : IVec S16384x3 32} (h : IdxOk j) : InRange (F := F) (flatIdx (F := F) j) := by
  intro y; unfold flatIdx shapeCast transpose; exact h _

/-- Position `(p, k)` of the index array. -/
abbrev idxAt (p : Fin 16384) (k : Fin 3) : S16384x3.Idx := ix2 p k

/-- Word `r` of the flat array is entry `(r mod 16384, r / 16384)`. -/
theorem flatIdx_apply {F : FTy → Type} (j : IVec S16384x3 32) (r : Fin 49152) :
    flatIdx (F := F) j (flatAt r) = j (idxAt ⟨r.val % 16384, Nat.mod_lt _ (by decide)⟩ ⟨r.val / 16384, by omega⟩) := by
  unfold flatIdx
  refine (shapeCast_apply _ _ _ (ix2 (n0 := 3) (n1 := 16384) ⟨r.val / 16384, by omega⟩ ⟨r.val % 16384, Nat.mod_lt _ (by decide)⟩) ?_).trans ?_
  · rw [Shape.rowMajor_val_two]
    refine Eq.trans ?_ (Shape.rowMajor_pair_val (d := ![1, 49152]) (0 : Fin 1) r).symm
    show r.val / 16384 * 16384 + r.val % 16384 = 0 * 49152 + r.val
    omega
  · refine transpose_apply _ _ _ _ _ fun b => ?_
    match b with
    | 0 => rfl
    | 1 => rfl

/-! ## The steps of `jnp.take` -/

theorem toInt_of_lt {v : BitVec 32} (h : v.toNat < 4096) : v.toInt = v.toNat := by
  rw [BitVec.toInt_eq_toNat_cond]; split <;> omega
theorem slt_zero {v : BitVec 32} (h : v.toNat < 4096) : IntOp.cmpi .slt v 0#32 = 0#1 := by
  simp only [IntOp.cmpi, BitVec.slt_eq_decide, toInt_of_lt h, BitVec.toInt_zero, BitVec.ofNat_eq_ofNat]
  rw [decide_eq_false (by omega)]; rfl
theorem sge_zero {v : BitVec 32} (h : v.toNat < 4096) : IntOp.cmpi .sge v 0#32 = 1#1 := by
  simp only [IntOp.cmpi, BitVec.sle_eq_decide, toInt_of_lt h, BitVec.toInt_zero, BitVec.ofNat_eq_ofNat]
  rw [decide_eq_true (by omega)]; rfl
theorem sle_last {v : BitVec 32} (h : v.toNat < 4096) : IntOp.cmpi .sle v 4095#32 = 1#1 := by
  simp only [IntOp.cmpi, BitVec.sle_eq_decide, toInt_of_lt h]
  rw [decide_eq_true (by rw [show (4095#32 : BitVec 32).toInt = 4095 by decide]; omega)]; rfl

/-- The indices after the wrap of negative ones. -/
abbrev wrapped (j : IVec S16384x3 32) : IVec S16384x3 32 :=
  select (cmpi .slt j (broadcastInDim S16384x3 ![] bcast_S_S16384x3 (constantI S_ 32 0#32)))
    (addi j (broadcastInDim S16384x3 ![] bcast_S_S16384x3 (constantI S_ 32 4096#32))) j

/-- In range, the wrap changes nothing. -/
theorem wrapped_eq {j : IVec S16384x3 32} (h : IdxOk j) : wrapped j = j := by
  funext y
  show Scalar.select (IntOp.cmpi .slt (j y) 0#32) _ (j y) = j y
  rw [slt_zero (h y)]
  rfl

/-- The indices as the gather takes them. -/
abbrev starts (j : IVec S16384x3 32) : IVec S16384x3x1 32 := broadcastInDim S16384x3x1 ![0, 1] bcast_S16384x3_S16384x3x1_0_1 (wrapped j)

/-- An entry of the gather's indices is an entry of the index array. -/
theorem starts_mem {j : IVec S16384x3 32} (h : IdxOk j) (z : S16384x3x1.Idx) : (starts j z).toNat < 4096 := by
  unfold starts; rw [wrapped_eq h]; unfold broadcastInDim; exact h _

theorem starts_apply {j : IVec S16384x3 32} (h : IdxOk j) (p : Fin 16384) (k : Fin 3) :
    starts j (takeIdx (ix2 p k)) = j (idxAt p k) := by
  unfold starts; rw [wrapped_eq h]
  refine broadcastInDim_apply _ _ _ _ _ fun a => ?_
  match a with
  | 0 => rfl
  | 1 => rfl

/-- The mask of the rows whose index is in range. -/
abbrev mask (j : IVec S16384x3 32) : IVec S16384x3 1 :=
  Host.reduce IntOp.andi (andi (cmpi .sge (starts j) (broadcastInDim S16384x3x1 ![] bcast_S_S16384x3x1 (constantI S_ 32 0#32)))
    (cmpi .sle (starts j) (broadcastInDim S16384x3x1 ![0, 1, 2] bcast_S1x1x1_S16384x3x1_0_1_2 (broadcastInDim S1x1x1 ![2] bcast_S1_S1x1x1_2 (constantI S1 32 4095#32)))))
    (constantI S_ 1 1#1) reducesTo_S16384x3x1_S16384x3_d2 h_S_

theorem mask_eq {j : IVec S16384x3 32} (h : IdxOk j) (y : S16384x3.Idx) : mask j y = 1#1 := by
  refine Host.reduce_andi_one _ _ _ _ _ rfl fun z => ?_
  show IntOp.andi (IntOp.cmpi .sge (starts j z) 0#32) (IntOp.cmpi .sle (starts j z) 4095#32) = 1#1
  rw [sge_zero (starts_mem h z), sle_last (starts_mem h z)]
  rfl

/-- Position `(p, k, c)` of the rows taken. -/
abbrev rowsAt (p : Fin 16384) (k : Fin 3) (c : Fin 128) : S16384x3x128.Idx := fun a => match a with | 0 => p | 1 => k | 2 => c

/-- The gather at `(p, k, c)`: column `c` of the row that entry `(p, k)` numbers. -/
theorem gather_apply {α : Type} {j : IVec S16384x3 32} (h : IdxOk j) (x : S4096x128.Idx → α) (p : Fin 16384) (k : Fin 3) (c : Fin 128) :
    Host.gather gather_S4096x128_S16384x3x1_S16384x3x128_2_0_n_n_0_2_1128 x (starts j) (rowsAt p k c) = x (tabAt (rowNo (j (idxAt p k))) c) := by
  unfold Host.gather
  refine congrArg x (funext fun a => Fin.ext ?_)
  show (gather_S4096x128_S16384x3x1_S16384x3x128_2_0_n_n_0_2_1128).start (rowsAt p k c) (starts j) a
    + (gather_S4096x128_S16384x3x1_S16384x3x128_2_0_n_n_0_2_1128).batchCoord (rowsAt p k c) a
    + (gather_S4096x128_S16384x3x1_S16384x3x128_2_0_n_n_0_2_1128).offCoord (rowsAt p k c) a = _
  rw [GatherDims.batchCoord_eq_zero _ _ _ List.not_mem_nil]
  match a with
  | 0 =>
    rw [GatherDims.offCoord_eq_zero _ _ _ (fun e => ((GatherDims.mem_sKept _ _).mp e).1 (List.mem_singleton.mpr rfl))]
    unfold GatherDims.start
    rw [dif_pos (show (0 : Fin 2) ∈ (gather_S4096x128_S16384x3x1_S16384x3x128_2_0_n_n_0_2_1128).startIndexMap from List.mem_singleton.mpr rfl)]
    have hsi : (gather_S4096x128_S16384x3x1_S16384x3x128_2_0_n_n_0_2_1128).siIdx (rowsAt p k c)
        ⟨List.idxOf (0 : Fin 2) (gather_S4096x128_S16384x3x1_S16384x3x128_2_0_n_n_0_2_1128).startIndexMap,
          List.idxOf_lt_length_iff.2 (List.mem_singleton.mpr rfl)⟩ = takeIdx (ix2 p k) := by
      funext b; refine Fin.ext ?_
      match b with
      | ⟨0, _⟩ => rfl
      | ⟨1, _⟩ => rfl
      | ⟨2, _⟩ => rfl
    rw [hsi, starts_apply h]
    have hv := h (idxAt p k)
    show min ((j (idxAt p k)).toInt.toNat) (4096 - 1) + 0 + 0 = (j (idxAt p k)).toNat % 4096
    rw [toInt_of_lt hv, Int.toNat_natCast]
    omega
  | 1 =>
    unfold GatherDims.start
    rw [dif_neg (show ¬ (1 : Fin 2) ∈ (gather_S4096x128_S16384x3x1_S16384x3x128_2_0_n_n_0_2_1128).startIndexMap from by
      intro e; exact absurd (List.mem_singleton.mp e) (by decide))]
    unfold GatherDims.offCoord
    rw [dif_pos (show (1 : Fin 2) ∈ (gather_S4096x128_S16384x3x1_S16384x3x128_2_0_n_n_0_2_1128).sKept from by decide)]
    show 0 + 0 + c.val = c.val
    omega

/-! ## The whole -/

variable {F : FTy → Type} [FloatOps F]

/-- The rows taken, masked. -/
abbrev taken (x : FVec F S4096x128 .f32) (j : IVec S16384x3 32) : FVec F S16384x3x128 .f32 :=
  select (broadcastInDim S16384x3x128 ![0, 1] bcast_S16384x3_S16384x3x128_0_1 (mask j))
    (Host.gather gather_S4096x128_S16384x3x1_S16384x3x128_2_0_n_n_0_2_1128 x (starts j))
    (broadcastInDim S16384x3x128 ![] bcast_S_S16384x3x128 (constant S_ .f32 0x7FC00000#32))

theorem taken_apply {j : IVec S16384x3 32} (h : IdxOk j) (x : FVec F S4096x128 .f32) (p : Fin 16384) (k : Fin 3) (c : Fin 128) :
    taken x j (rowsAt p k c) = x (tabAt (rowNo (j (idxAt p k))) c) := by
  have hm : broadcastInDim S16384x3x128 ![0, 1] bcast_S16384x3_S16384x3x128_0_1 (mask j) (rowsAt p k c) = 1#1 := by
    unfold broadcastInDim; exact mask_eq h _
  unfold taken select
  rw [hm, gather_apply h]
  rfl

/-- The reference's result. -/
abbrev refOut (x : FVec F S4096x128 .f32) (j : IVec S16384x3 32) : FVec F S49152x128 .f32 :=
  shapeCast S49152x128 (transpose S3x16384x128 [1, 0, 2] (taken x j) transposes_S16384x3x128_S3x16384x128_1_0_2) shapeCasts_S3x16384x128_S49152x128

/-- The reference's result is the rows the kernel writes. -/
theorem refOut_eq {j : IVec S16384x3 32} (h : IdxOk j) (x : FVec F S4096x128 .f32) :
    refOut x j = gathered (F := F) x (flatIdx (F := F) j) := by
  funext y
  have hr : (y 0).val < 49152 := (y 0).isLt
  let k : Fin 3 := ⟨(y 0).val / 16384, by omega⟩
  let p : Fin 16384 := ⟨(y 0).val % 16384, Nat.mod_lt _ (by decide)⟩
  unfold gathered
  rw [flatIdx_apply j (y 0)]
  refine Eq.trans ?_ (taken_apply h x p k (y 1))
  refine (shapeCast_apply _ _ _ (fun a => match a with | 0 => k | 1 => p | 2 => y 1 : S3x16384x128.Idx) ?_).trans ?_
  · rw [Shape.rowMajor_val_three, Shape.rowMajor_val_two]
    show ((y 0).val / 16384 * 16384 + (y 0).val % 16384) * 128 + (y 1).val = (y 0).val * 128 + (y 1).val
    omega
  · refine transpose_apply _ _ _ _ _ fun b => ?_
    match b with
    | 0 => rfl
    | 1 => rfl
    | 2 => rfl

/-- The reference's run: the result at `refOut`, the arguments unchanged. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Cert.Proof.Rows

end
-- ==== Proof.Pre.lean ====
/-
  The precondition, read off: `idx_in_range`, as jax computes it, says of every index that it is at least 0 and below
  4096 as a signed word; such a word is its own value, below 4096.
-/
module

public import proofs.«01_k».proof.Proof.RefValue
public import proofs.«01_k».proof.Proof.Gen.Pre_idx_in_range

@[expose] public section

noncomputable section

namespace Cert.Proof.Rows

open Cert.ReferenceIdeal
open Idealize.ShloMosaic

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

theorem word_ok {v : BitVec 32} (h0 : IntOp.cmpi .sge v 0#32 = 1#1) (h1 : IntOp.cmpi .slt v 4096#32 = 1#1) : v.toNat < 4096 := by
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

/-- Where the precondition comes out true, every index is in range. -/
theorem idxOk_of_pre {F : FTy → Type} [FloatOps F] (x : FVec F S4096x128 .f32) (j : IVec S16384x3 32)
    (h : Cert.Pre_idx_in_range.fn x j = fun _ => 1#1) : IdxOk j := by
  intro y
  have e := congrFun h (fun a => a.elim0)
  simp only [Cert.Pre_idx_in_range.fn, andi] at e
  obtain ⟨e0, e1⟩ := IntOp.andi_eq_one.1 e
  have : Subsingleton Cert.Pre_idx_in_range.S_.Idx := ⟨fun a b => funext fun i => i.elim0⟩
  exact word_ok (Host.reduce_andi_all _ _ _ _ _ e0 y) (Host.reduce_andi_all _ _ _ _ _ e1 y)

end Cert.Proof.Rows

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_idx_in_range
public import proofs.«01_k».proof.Proof.Gen.ReferenceIdeal.Run
public import proofs.«01_k».proof.Proof.Gen.SearchIdeal.Value
public import proofs.«01_k».proof.Proof.Gen.Search
public import proofs.«01_k».proof.Proof.Gen.Search.Frame
public import proofs.«01_k».proof.Proof.Gen.SearchIdeal
public import proofs.«01_k».proof.Proof.Gen.SearchReferenceIdeal
public import proofs.«01_k».proof.Proof.Gen.Pre_points_finite
public import proofs.«01_k».proof.Proof.Search.Match
public import proofs.«01_k».proof.Proof.Layers.Coarse
public import proofs.«01_k».proof.Proof.Layers.Fine
public import Idealize.ShloMosaic.Lib.Bf16Pair
public import proofs.«01_k».proof.Proof.Gen.Coarse
public import proofs.«01_k».proof.Proof.Gen.Coarse.Frame
public import proofs.«01_k».proof.Proof.Gen.CoarseIdeal
public import proofs.«01_k».proof.Proof.Gen.CoarseIdeal.Value
public import proofs.«01_k».proof.Proof.Gen.CoarseReferenceIdeal
public import proofs.«01_k».proof.Proof.Gen.CoarseReferenceIdeal.Run
public import proofs.«01_k».proof.Proof.Gen.Fine
public import proofs.«01_k».proof.Proof.Gen.Fine.Frame
public import proofs.«01_k».proof.Proof.Gen.FineIdeal
public import proofs.«01_k».proof.Proof.Gen.FineIdeal.Value
public import proofs.«01_k».proof.Proof.Gen.FineReferenceIdeal
public import proofs.«01_k».proof.Proof.Gen.FineReferenceIdeal.Run
public import proofs.«01_k».proof.Proof.Gen.SearchReferenceIdeal.Run
public import proofs.«01_k».proof.Proof.Gen.Reference.Run
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem Cert.Proof.Rows

/-! ## The kernel's frames -/

theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ fun c => inRange_flat (idxOk_of_pre _ _ (hpre c)))

theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun c => inRange_flat (idxOk_of_pre _ _ (hpre c)))

/-! ## The reference's frames -/

theorem frame_referenceIdeal : Cert.quiescent_ReferenceIdeal := fun m ρ _ =>
  (θ_run Cert.ReferenceIdeal.defs _ _).mono (fun _ h => ⟨fun c => (h c).2, sem_eq_zero_of_no_sems rfl _⟩) (run_ref (F := Ideal) m ρ)

theorem frame_referenceIdeal_pre : Cert.quiescent_ReferenceIdeal_pre_idx_in_range := fun m ρ _ =>
  (θ_run Cert.ReferenceIdeal.defs _ _).mono (fun _ h => ⟨fun c => (h c).2, sem_eq_zero_of_no_sems rfl _⟩) (run_ref (F := Ideal) m ρ)

theorem frame_reference : Cert.quiescent_Reference := fun m ρ _ =>
  (θ_run Cert.ReferenceIdeal.defs _ _).mono (fun _ h => ⟨fun c => (h c).2, sem_eq_zero_of_no_sems rfl _⟩) (run_ref (F := Bits) m ρ)

/-! ## The values -/

theorem algebraic : Cert.algebraic_KernelIdeal_ReferenceIdeal := fun m ρ m' ρ' hpre hagree =>
  ⟨fun c => result m (ivs m) c,
    (θ_run Cert.KernelIdeal.defs _ _).mono (fun _ h c => ⟨(h.1 c).2.2, (h.1 c).1, (h.1 c).2.1⟩)
      (run_main (F := Ideal) m ρ fun c => inRange_flat (idxOk_of_pre _ _ (hpre c))),
    (θ_run Cert.ReferenceIdeal.defs _ _).mono
      (fun _ h c => ⟨(h c).1.trans ((congrArg₂ refOut (hagree c).1 (hagree c).2).trans (refOut_eq (idxOk_of_pre _ _ (hpre c)) _)), (h c).2⟩)
      (run_ref (F := Ideal) m' ρ')⟩

theorem bitexact : Cert.bitexact_Kernel_Reference := fun m ρ m' ρ' hpre hagree =>
  ⟨fun c => result (F := Bits) m (ivs m) c,
    (θ_run Cert.KernelIdeal.defs _ _).mono (fun _ h c => ⟨(h.1 c).2.2, (h.1 c).1, (h.1 c).2.1⟩)
      (run_main (F := Bits) m ρ fun c => inRange_flat (idxOk_of_pre _ _ (hpre c))),
    (θ_run Cert.ReferenceIdeal.defs _ _).mono
      (fun _ h c => ⟨(h c).1.trans ((congrArg₂ refOut (hagree c).1 (hagree c).2).trans (refOut_eq (idxOk_of_pre _ _ (hpre c)) _)), (h c).2⟩)
      (run_ref (F := Bits) m' ρ')⟩

/-! ## The search -/

theorem frame_search : Cert.quiescent_Search := fun m ρ _ => Cert.Search.Gen.frame (F := Bits) m ρ

theorem frame_searchIdeal : Cert.quiescent_SearchIdeal := fun m ρ _ => Cert.SearchIdeal.Gen.frame (F := Ideal) m ρ

theorem frame_searchIdeal_pre : Cert.quiescent_SearchIdeal_pre_points_finite := fun m ρ _ => frame_searchIdeal m ρ trivial

theorem frame_searchReferenceIdeal : Cert.quiescent_SearchReferenceIdeal := fun m ρ _ =>
  (θ_run Cert.SearchReferenceIdeal.defs _ _).mono (fun _ h => ⟨fun c => (h c).2.2, sem_eq_zero_of_no_sems rfl _⟩)
    (Cert.SearchReferenceIdeal.Value.run (F := Ideal) m ρ)

theorem frame_searchReferenceIdeal_pre : Cert.quiescent_SearchReferenceIdeal_pre_points_finite := fun m ρ _ =>
  frame_searchReferenceIdeal m ρ trivial

theorem algebraic_search : Cert.algebraic_SearchIdeal_SearchReferenceIdeal_pre_points_finite := fun m ρ m' ρ' hpre hagree =>
  ⟨fun c => (Cert.SearchIdeal.Gen.dats m 0 c).arrAt 3 Cert.SearchIdeal.cfg0.N, fun c => (Cert.SearchIdeal.Gen.dats m 0 c).arrAt 4 Cert.SearchIdeal.cfg0.N,
    Cert.SearchIdeal.Value.run_blocks m ρ,
    (θ_run Cert.SearchReferenceIdeal.defs _ _).mono (fun _ h c => by
        obtain ⟨hS, hY⟩ := Search.real_of_pre _ _ (hpre c)
        obtain ⟨a0, a1⟩ := hagree c
        refine ⟨(h c).1.trans ?_, (h c).2.1.trans ?_, (h c).2.2⟩
        · rw [a0, a1]
          exact (Search.indices_eq _ _ hS hY _).trans (Search.arr3 m c).symm
        · rw [a0, a1]
          exact (Search.weights_eq _ _ hS hY _).trans (Search.arr4 m c).symm)
      (Cert.SearchReferenceIdeal.Value.run (F := Ideal) m' ρ')⟩

/-! ## The two layers -/

theorem frame_coarse : Cert.quiescent_Coarse := fun m ρ _ => Cert.Coarse.Gen.frame (F := Bits) m ρ

theorem frame_coarseIdeal : Cert.quiescent_CoarseIdeal := fun m ρ _ => Cert.CoarseIdeal.Gen.frame (F := Ideal) m ρ

theorem frame_coarseReferenceIdeal : Cert.quiescent_CoarseReferenceIdeal := fun m ρ _ =>
  (θ_run Cert.CoarseReferenceIdeal.defs _ _).mono (fun _ h => ⟨fun c => (h c).2, sem_eq_zero_of_no_sems rfl _⟩)
    (Cert.CoarseReferenceIdeal.Value.run (F := Ideal) m ρ)

theorem preserves_coarse : Cert.preserves_Coarse_CoarseIdeal := ⟨IdealRules.bf16_pair.statement _ _, IdealRules.bf16_pack.statement _⟩

theorem algebraic_coarse : Cert.algebraic_CoarseIdeal_CoarseReferenceIdeal := fun m ρ m' ρ' _ hagree =>
  ⟨_, Cert.CoarseIdeal.Value.run (F := Ideal) m ρ,
    (θ_run Cert.CoarseReferenceIdeal.defs _ _).mono (fun _ h c => by
        obtain ⟨a0, a1, a2, a3, a4⟩ := hagree c
        refine ⟨(h c).1.trans ?_, (h c).2⟩
        rw [a0, a1, a2, a3, a4]
        exact Layers.Coarse.pay_eq _ _ _ _ _)
      (Cert.CoarseReferenceIdeal.Value.run (F := Ideal) m' ρ')⟩

theorem frame_fine : Cert.quiescent_Fine := fun m ρ _ => Cert.Fine.Gen.frame (F := Bits) m ρ

theorem frame_fineIdeal : Cert.quiescent_FineIdeal := fun m ρ _ => Cert.FineIdeal.Gen.frame (F := Ideal) m ρ

theorem frame_fineReferenceIdeal : Cert.quiescent_FineReferenceIdeal := fun m ρ _ =>
  (θ_run Cert.FineReferenceIdeal.defs _ _).mono (fun _ h => ⟨fun c => (h c).2.2.2, sem_eq_zero_of_no_sems rfl _⟩)
    (Cert.FineReferenceIdeal.Value.run (F := Ideal) m ρ)

theorem preserves_fine : Cert.preserves_Fine_FineIdeal := IdealRules.bf16_pair.statement _ _

theorem algebraic_fine : Cert.algebraic_FineIdeal_FineReferenceIdeal := fun m ρ m' ρ' _ hagree =>
  ⟨_, _, _, (θ_run Cert.FineIdeal.defs _ _).mono (fun _ h c => ⟨(h c).1, (h c).2.1, (h c).2.2.1, (h c).2⟩)
      (Cert.FineIdeal.Value.run_blocks (F := Ideal) m ρ),
    (θ_run Cert.FineReferenceIdeal.defs _ _).mono (fun _ h c => by
        obtain ⟨a0, a1, a2, a3, a4, a5, a6, a7, a8⟩ := hagree c
        refine ⟨(h c).1.trans ?_, (h c).2.1.trans a0, (h c).2.2.1.trans a1, (h c).2.2.2⟩
        rw [a2, a3, a4, a5, a6, a7, a8]
        exact Layers.Fine.arr_eq m c)
      (Cert.FineReferenceIdeal.Value.run (F := Ideal) m' ρ')⟩

theorem claim : Cert.Claim := ⟨Cert.Kernel.Gen.facts, Cert.KernelIdeal.Gen.facts, Cert.ReferenceIdeal.Gen.facts, Cert.Reference.Gen.facts, Cert.Search.Gen.facts, Cert.SearchIdeal.Gen.facts,
  Cert.SearchReferenceIdeal.Gen.facts, Cert.Coarse.Gen.facts, Cert.CoarseIdeal.Gen.facts, Cert.CoarseReferenceIdeal.Gen.facts,
  Cert.Fine.Gen.facts, Cert.FineIdeal.Gen.facts, Cert.FineReferenceIdeal.Gen.facts, Cert.Pre_idx_in_range.Gen.facts, Cert.Pre_points_finite.Gen.facts,
  frame_kernel, frame_kernelIdeal, frame_referenceIdeal, frame_referenceIdeal_pre, frame_reference,
  frame_search, frame_searchIdeal, frame_searchIdeal_pre, frame_searchReferenceIdeal, frame_searchReferenceIdeal_pre,
  frame_coarse, frame_coarseIdeal, frame_coarseReferenceIdeal, frame_fine, frame_fineIdeal, frame_fineReferenceIdeal,
  trivial, algebraic, bitexact, trivial, algebraic_search,
  preserves_coarse, algebraic_coarse, preserves_fine, algebraic_fine⟩

end Cert.Proof

end
